-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x768 : Shape := ⟨2, ![768, 768]⟩
abbrev S768 : Shape := ⟨1, ![768]⟩
abbrev S8x768x768 : Shape := ⟨3, ![8, 768, 768]⟩
abbrev S8x768 : Shape := ⟨2, ![8, 768]⟩
abbrev S8x768x8 : Shape := ⟨3, ![8, 768, 8]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S8x768x8 : S_.BroadcastsInDim S8x768x8 (![] : Fin 0 → Fin S8x768x8.rank)
  reducesTo_S8x768x8_S_d0_1_2 : S8x768x8.ReducesTo [0, 1, 2] S_

variable [Facts]

def fn {F : FTy → Type} [FloatOps F] (main_arg0 : FVec F S4x2048x768 .f32) (main_arg1 : FVec F S768x768 .f32) (main_arg2 : FVec F S768 .f32) (main_arg3 : FVec F S8x768x768 .f32) (main_arg4 : FVec F S8x768 .f32) (main_arg5 : FVec F S8x768x8 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S8x768x8 .f32 := Host.absf main_arg5
  let main_cst_0 : FVec F S_ .f32 := constant S_ .f32 0x7F800000#32
  let main_v5 : FVec F S8x768x8 .f32 := broadcastInDim S8x768x8 ![] bcast_S_S8x768x8 main_cst_0
  let main_v6 : IVec S8x768x8 1 := cmpf .olt main_v4 main_v5
  let main_c_1 : IVec S_ 1 := constantI S_ 1 1#1
  let main_v7 : IVec S_ 1 := (fun x v => Host.reduce IntOp.andi x v reducesTo_S8x768x8_S_d0_1_2 h_S_) main_v6 main_c_1
  let main_v8 : IVec S_ 1 := andi main_v3 main_v7
  main_v8
-- ==== Kernel.lean ====
abbrev S4x2048x768 : Shape := ⟨3, ![4, 2048, 768]⟩
abbrev S768x768 : Shape := ⟨2, ![768, 768]⟩
abbrev S768 : Shape := ⟨1, ![768]⟩
abbrev S8x768x768 : Shape := ⟨3, ![8, 768, 768]⟩
abbrev S8x768 : Shape := ⟨2, ![8, 768]⟩
abbrev S8x768x8 : Shape := ⟨3, ![8, 768, 8]⟩
abbrev S8192x768 : Shape := ⟨2, ![8192, 768]⟩
abbrev S768x8x8 : Shape := ⟨3, ![768, 8, 8]⟩
abbrev S768x64 : Shape := ⟨2, ![768, 64]⟩
abbrev S64x64 : Shape := ⟨2, ![64, 64]⟩
abbrev S64 : Shape := ⟨1, ![64]⟩
abbrev S64x1 : Shape := ⟨2, ![64, 1]⟩
abbrev S_ : Shape := ⟨0, ![]⟩
abbrev S1x64 : Shape := ⟨2, ![1, 64]⟩
abbrev S1x64x64 : Shape := ⟨3, ![1, 64, 64]⟩
abbrev S3x64x64 : Shape := ⟨3, ![3, 64, 64]⟩
abbrev S1x768 : Shape := ⟨2, ![1, 768]⟩
abbrev S8192x8 : Shape := ⟨2, ![8192, 8]⟩
abbrev S1024x768 : Shape := ⟨2, ![1024, 768]⟩
abbrev S1024x8 : Shape := ⟨2, ![1024, 8]⟩
abbrev S1 : Shape := ⟨1, ![1]⟩
abbrev S1024x64 : Shape := ⟨2, ![1024, 64]⟩
abbrev S64x8 : Shape := ⟨2, ![64, 8]⟩
abbrev S1024 : Shape := ⟨1, ![1024]⟩
abbrev S1024x1 : Shape := ⟨2, ![1024, 1]⟩
abbrev S1x1024x8 : Shape := ⟨3, ![1, 1024, 8]⟩
abbrev S1x1x1 : Shape := ⟨3, ![1, 1, 1]⟩
abbrev S1x768x768 : Shape := ⟨3, ![1, 768, 768]⟩

abbrev nBuf : Space → Nat
  | .hbm => 55
  | .vmem => 17
  | .smem => 1
  | _ => 0

abbrev bufTy : (tb : Table) → Fin (tcTables nBuf tb) → BufTy
  | .hbm, ⟨0, _⟩ => ⟨S4x2048x768, .f32⟩
  | .hbm, ⟨1, _⟩ => ⟨S768x768, .f32⟩
  | .hbm, ⟨2, _⟩ => ⟨S768, .f32⟩
  | .hbm, ⟨3, _⟩ => ⟨S8x768x768, .f32⟩
  | .hbm, ⟨4, _⟩ => ⟨S8x768, .f32⟩
  | .hbm, ⟨5, _⟩ => ⟨S8x768x8, .f32⟩
  | .hbm, ⟨6, _⟩ => ⟨S8192x768, .f32⟩
  | .hbm, ⟨7, _⟩ => ⟨S768x8x8, .f32⟩
  | .hbm, ⟨8, _⟩ => ⟨S768x64, .f32⟩
  | .hbm, ⟨9, _⟩ => ⟨S768x64, .bf16⟩
  | .hbm, ⟨10, _⟩ => ⟨S768x64, .f32⟩
  | .hbm, ⟨11, _⟩ => ⟨S64x64, .f32⟩
  | .hbm, ⟨12, _⟩ => ⟨S64, .i32⟩
  | .hbm, ⟨13, _⟩ => ⟨S64x1, .i32⟩
  | .hbm, ⟨14, _⟩ => ⟨S_, .i32⟩
  | .hbm, ⟨15, _⟩ => ⟨S_, .i32⟩
  | .hbm, ⟨16, _⟩ => ⟨S64x1, .i32⟩
  | .hbm, ⟨17, _⟩ => ⟨S64x1, .i32⟩
  | .hbm, ⟨18, _⟩ => ⟨S64x1, .i32⟩
  | .hbm, ⟨19, _⟩ => ⟨S_, .i32⟩
  | .hbm, ⟨20, _⟩ => ⟨S64x1, .i32⟩
  | .hbm, ⟨21, _⟩ => ⟨S64x1, .i1⟩
  | .hbm, ⟨22, _⟩ => ⟨S64x1, .i32⟩
  | .hbm, ⟨23, _⟩ => ⟨S64x1, .i32⟩
  | .hbm, ⟨24, _⟩ => ⟨S_, .i32⟩
  | .hbm, ⟨25, _⟩ => ⟨S64x1, .i32⟩
  | .hbm, ⟨26, _⟩ => ⟨S64x1, .i1⟩
  | .hbm, ⟨27, _⟩ => ⟨S64x1, .i1⟩
  | .hbm, ⟨28, _⟩ => ⟨S_, .i32⟩
  | .hbm, ⟨29, _⟩ => ⟨S64x1, .i32⟩
  | .hbm, ⟨30, _⟩ => ⟨S64x1, .i32⟩
  | .hbm, ⟨31, _⟩ => ⟨S64x1, .i32⟩
  | .hbm, ⟨32, _⟩ => ⟨S1x64, .i32⟩
  | .hbm, ⟨33, _⟩ => ⟨S64x64, .i32⟩
  | .hbm, ⟨34, _⟩ => ⟨S64x64, .i32⟩
  | .hbm, ⟨35, _⟩ => ⟨S64x64, .i1⟩
  | .hbm, ⟨36, _⟩ => ⟨S64x64, .f32⟩
  | .hbm, ⟨37, _⟩ => ⟨S64x64, .f32⟩
  | .hbm, ⟨38, _⟩ => ⟨S64x64, .bf16⟩
  | .hbm, ⟨39, _⟩ => ⟨S64x64, .f32⟩
  | .hbm, ⟨40, _⟩ => ⟨S64x64, .f32⟩
  | .hbm, ⟨41, _⟩ => ⟨S64x64, .bf16⟩
  | .hbm, ⟨42, _⟩ => ⟨S64x64, .f32⟩
  | .hbm, ⟨43, _⟩ => ⟨S64x64, .f32⟩
  | .hbm, ⟨44, _⟩ => ⟨S64x64, .bf16⟩
  | .hbm, ⟨45, _⟩ => ⟨S1x64x64, .bf16⟩
  | .hbm, ⟨46, _⟩ => ⟨S1x64x64, .bf16⟩
  | .hbm, ⟨47, _⟩ => ⟨S1x64x64, .bf16⟩
  | .hbm, ⟨48, _⟩ => ⟨S3x64x64, .bf16⟩
  | .hbm, ⟨49, _⟩ => ⟨S768x768, .bf16⟩
  | .hbm, ⟨50, _⟩ => ⟨S8x768x768, .bf16⟩
  | .hbm, ⟨51, _⟩ => ⟨S1x768, .f32⟩
  | .hbm, ⟨52, _⟩ => ⟨S8192x8, .f32⟩
  | .hbm, ⟨53, _⟩ => ⟨S8192x768, .f32⟩
  | .hbm, ⟨54, _⟩ => ⟨S4x2048x768, .f32⟩
  | .local _ .vmem, ⟨0, _⟩ => ⟨S1024x768, .f32⟩
  | .local _ .vmem, ⟨1, _⟩ => ⟨S1024x768, .f32⟩
  | .local _ .vmem, ⟨2, _⟩ => ⟨S768x64, .bf16⟩
  | .local _ .vmem, ⟨3, _⟩ => ⟨S3x64x64, .bf16⟩
  | .local _ .vmem, ⟨4, _⟩ => ⟨S1024x8, .f32⟩
  | .local _ .vmem, ⟨5, _⟩ => ⟨S1024x8, .f32⟩
  | .local _ .vmem, ⟨6, _⟩ => ⟨S8192x8, .f32⟩
  | .local _ .vmem, ⟨7, _⟩ => ⟨S1024x768, .f32⟩
  | .local _ .vmem, ⟨8, _⟩ => ⟨S1024x768, .f32⟩
  | .local _ .vmem, ⟨9, _⟩ => ⟨S1024x8, .f32⟩
  | .local _ .vmem, ⟨10, _⟩ => ⟨S1024x8, .f32⟩
  | .local _ .vmem, ⟨11, _⟩ => ⟨S768x768, .bf16⟩
  | .local _ .vmem, ⟨12, _⟩ => ⟨S1x768, .f32⟩
  | .local _ .vmem, ⟨13, _⟩ => ⟨S8x768x768, .bf16⟩
  | .local _ .vmem, ⟨14, _⟩ => ⟨S8x768, .f32⟩
  | .local _ .vmem, ⟨15, _⟩ => ⟨S1024x768, .f32⟩
  | .local _ .vmem, ⟨16, _⟩ => ⟨S1024x768, .f32⟩
  | .local _ .smem, ⟨0, _⟩ => ⟨S1, .i32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c1024_i32 : BitVec 32 := 1024#32
  let v118 : BitVec 32 := Scalar.muli arg0 c1024_i32
  let v119 : Index := Scalar.indexCast v118
  let c0_38 : Index := 0#32
  ![v119.toNat, 0]
def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_off2 (i : grid0.Coords) : Fin 2 → Nat :=
  let arg0 : BitVec 32 := BitVec.ofNat 32 (i 0).val
  let c8_i32_4 : BitVec 32 := 8#32
  let v9 : BitVec 32 := Scalar.subi arg0 c8_i32_4
  let c1024_i32 : BitVec 32 := 1024#32
  let v10 : BitVec 32 := Scalar.muli v9 c1024_i32
  let v11 : Index := Scalar.indexCast v10
  let c0 : Index := 0#32
  ![v11.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x768x768 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S4x2048x768 : Shape := ⟨3, ![4, 2048, 768]⟩
abbrev S768x768 : Shape := ⟨2, ![768, 768]⟩
abbrev S768 : Shape := ⟨1, ![768]⟩
abbrev S8x768x768 : Shape := ⟨3, ![8, 768, 768]⟩
abbrev S8x768 : Shape := ⟨2, ![8, 768]⟩
abbrev S8x768x8 : Shape := ⟨3, ![8, 768, 8]⟩
abbrev S1x1x768 : Shape := ⟨3, ![1, 1, 768]⟩
abbrev S8192x768 : Shape := ⟨2, ![8192, 768]⟩
abbrev S8x8x8192 : Shape := ⟨3, ![8, 8, 8192]⟩
abbrev S8x8192x768 : Shape := ⟨3, ![8, 8192, 768]⟩
abbrev S1x8192x768 : Shape := ⟨3, ![1, 8192, 768]⟩
abbrev S_ : Shape := ⟨0, ![]⟩
abbrev S8x8192 : Shape := ⟨2, ![8, 8192]⟩
abbrev S8192x8 : Shape := ⟨2, ![8192, 8]⟩
abbrev S8192 : Shape := ⟨1, ![8192]⟩
abbrev S8192x1 : Shape := ⟨2, ![8192, 1]⟩
abbrev S8192x2 : Shape := ⟨2, ![8192, 2]⟩
abbrev S8192x2x1 : Shape := ⟨3, ![8192, 2, 1]⟩
abbrev S8192x2x2 : Shape := ⟨3, ![8192, 2, 2]⟩
abbrev S8x768x8192 : Shape := ⟨3, ![8, 768, 8192]⟩
abbrev S8x1x768 : Shape := ⟨3, ![8, 1, 768]⟩

abbrev nBuf : Space → Nat
  | .hbm => 119
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x768, .f32⟩
  | .hbm, ⟨2, _⟩ => ⟨S768, .f32⟩
  | .hbm, ⟨3, _⟩ => ⟨S8x768x768, .f32⟩
  | .hbm, ⟨4, _⟩ => ⟨S8x768, .f32⟩
  | .hbm, ⟨5, _⟩ => ⟨S8x768x8, .f32⟩
  | .hbm, ⟨6, _⟩ => ⟨S4x2048x768, .f32⟩
  | .hbm, ⟨7, _⟩ => ⟨S1x1x768, .f32⟩
  | .hbm, ⟨8, _⟩ => ⟨S4x2048x768, .f32⟩
  | .hbm, ⟨9, _⟩ => ⟨S4x2048x768, .f32⟩
  | .hbm, ⟨10, _⟩ => ⟨S8192x768, .f32⟩
  | .hbm, ⟨11, _⟩ => ⟨S8x8x8192, .f32⟩
  | .hbm, ⟨12, _⟩ => ⟨S8x8192x768, .f32⟩
  | .hbm, ⟨13, _⟩ => ⟨S1x8192x768, .f32⟩
  | .hbm, ⟨14, _⟩ => ⟨S8x8192x768, .f32⟩
  | .hbm, ⟨15, _⟩ => ⟨S8x8192x768, .f32⟩
  | .hbm, ⟨16, _⟩ => ⟨S8x8192x768, .f32⟩
  | .hbm, ⟨17, _⟩ => ⟨S_, .f32⟩
  | .hbm, ⟨18, _⟩ => ⟨S8x8192, .f32⟩
  | .hbm, ⟨19, _⟩ => ⟨S8x8192, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x8, .f32⟩
  | .hbm, ⟨35, _⟩ => ⟨S8192x8, .f32⟩
  | .hbm, ⟨36, _⟩ => ⟨S_, .f32⟩
  | .hbm, ⟨37, _⟩ => ⟨S8192x8, .f32⟩
  | .hbm, ⟨38, _⟩ => ⟨S8192x8, .i1⟩
  | .hbm, ⟨39, _⟩ => ⟨S8192x8, .i32⟩
  | .hbm, ⟨40, _⟩ => ⟨S_, .f32⟩
  | .hbm, ⟨41, _⟩ => ⟨S_, .i32⟩
  | .hbm, ⟨42, _⟩ => ⟨S8192, .f32⟩
  | .hbm, ⟨43, _⟩ => ⟨S8192, .i32⟩
  | .hbm, ⟨44, _⟩ => ⟨S_, .i1⟩
  | .hbm, ⟨45, _⟩ => ⟨S8192x8, .i1⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S8192x1, .i32⟩
  | .hbm, ⟨63, _⟩ => ⟨S8192x2, .i32⟩
  | .hbm, ⟨64, _⟩ => ⟨S_, .i1⟩
  | .hbm, ⟨65, _⟩ => ⟨S8192, .i1⟩
  | .hbm, ⟨66, _⟩ => ⟨S8192x8, .i1⟩
  | .hbm, ⟨67, _⟩ => ⟨S_, .i1⟩
  | .hbm, ⟨68, _⟩ => ⟨S_, .i1⟩
  | .hbm, ⟨69, _⟩ => ⟨S8192x8, .i1⟩
  | .hbm, ⟨70, _⟩ => ⟨S8192x2, .f32⟩
  | .hbm, ⟨71, _⟩ => ⟨S8192x2, .i32⟩
  | .hbm, ⟨72, _⟩ => ⟨S_, .i1⟩
  | .hbm, ⟨73, _⟩ => ⟨S8192x8, .i1⟩
  | .hbm, ⟨74, _⟩ => ⟨S8192, .i32⟩
  | .hbm, ⟨75, _⟩ => ⟨S8192x1, .i32⟩
  | .hbm, ⟨76, _⟩ => ⟨S_, .i32⟩
  | .hbm, ⟨77, _⟩ => ⟨S8192x1, .i32⟩
  | .hbm, ⟨78, _⟩ => ⟨S8192x1, .i1⟩
  | .hbm, ⟨79, _⟩ => ⟨S_, .i32⟩
  | .hbm, ⟨80, _⟩ => ⟨S8192x1, .i32⟩
  | .hbm, ⟨81, _⟩ => ⟨S8192x1, .i32⟩
  | .hbm, ⟨82, _⟩ => ⟨S8192x1, .i32⟩
  | .hbm, ⟨83, _⟩ => ⟨S_, .i32⟩
  | .hbm, ⟨84, _⟩ => ⟨S8192x2, .i32⟩
  | .hbm, ⟨85, _⟩ => ⟨S8192x2, .i1⟩
  | .hbm, ⟨86, _⟩ => ⟨S_, .i32⟩
  | .hbm, ⟨87, _⟩ => ⟨S8192x2, .i32⟩
  | .hbm, ⟨88, _⟩ => ⟨S8192x2, .i32⟩
  | .hbm, ⟨89, _⟩ => ⟨S8192x2, .i32⟩
  | .hbm, ⟨90, _⟩ => ⟨S8192x2, .i32⟩
  | .hbm, ⟨91, _⟩ => ⟨S8192x2x1, .i32⟩
  | .hbm, ⟨92, _⟩ => ⟨S8192x2x1, .i32⟩
  | .hbm, ⟨93, _⟩ => ⟨S8192x2x2, .i32⟩
  | .hbm, ⟨94, _⟩ => ⟨S_, .i1⟩
  | .hbm, ⟨95, _⟩ => ⟨S8192x2, .i1⟩
  | .hbm, ⟨96, _⟩ => ⟨S8192x8, .i1⟩
  | .hbm, ⟨97, _⟩ => ⟨S8192x8, .i1⟩
  | .hbm, ⟨98, _⟩ => ⟨S8192x8, .f32⟩
  | .hbm, ⟨99, _⟩ => ⟨S8192x8, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .i1⟩
  | .hbm, ⟨106, _⟩ => ⟨S_, .f32⟩
  | .hbm, ⟨107, _⟩ => ⟨S8192x1, .f32⟩
  | .hbm, ⟨108, _⟩ => ⟨S8192x1, .f32⟩
  | .hbm, ⟨109, _⟩ => ⟨S8192x8, .f32⟩
  | .hbm, ⟨110, _⟩ => ⟨S8192x8, .f32⟩
  | .hbm, ⟨111, _⟩ => ⟨S8x768x8192, .f32⟩
  | .hbm, ⟨112, _⟩ => ⟨S8x8192x768, .f32⟩
  | .hbm, ⟨113, _⟩ => ⟨S8x1x768, .f32⟩
  | .hbm, ⟨114, _⟩ => ⟨S8x8192x768, .f32⟩
  | .hbm, ⟨115, _⟩ => ⟨S8x8192x768, .f32⟩
  | .hbm, ⟨116, _⟩ => ⟨S8192x768, .f32⟩
  | .hbm, ⟨117, _⟩ => ⟨S4x2048x768, .f32⟩
  | .hbm, ⟨118, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_call1_v0 : Ref sig .tc := ⟨.hbm, 39, rfl⟩
abbrev main_call1_cst : Ref sig .tc := ⟨.hbm, 40, rfl⟩
abbrev main_call1_c : Ref sig .tc := ⟨.hbm, 41, rfl⟩
abbrev main_call1_v1_0 : Ref sig .tc := ⟨.hbm, 42, rfl⟩
abbrev main_v26 : Ref sig .tc := ⟨.hbm, 43, rfl⟩
abbrev main_c : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_values : Ref sig .tc := ⟨.hbm, 70, rfl⟩
abbrev main_indices : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_cst_16 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== Proof.Same.lean ====
/-
  The kernel as printed and the kernel as printed for exact arithmetic are one program: the second has no rewrite
  applied. Here that is said of their body tables and of @main, so that a run proved of one is a run of the other.
-/
module

public import proofs.«01_k».proof.Proof.Gen.Kernel
public import proofs.«01_k».proof.Proof.Gen.KernelIdeal
public import Idealize.ShloMosaic.Adequacy
public import Idealize.ShloMosaic.Init

@[expose] public section

set_option maxRecDepth 16384

noncomputable section

namespace Cert.Same

open Idealize.ShloMosaic Idealize.SL.Sem

variable {F : FTy → Type} [FloatOps F]

set_option maxHeartbeats 4000000 in
theorem bodies : Cert.Kernel.defs₀ (F := F) = Cert.KernelIdeal.defs₀ (F := F) := by
  funext pr l a
  cases pr
  · match l, a with
    | 0, _ => rfl
    | 1, _ => rfl
  all_goals rfl

set_option maxHeartbeats 4000000 in
theorem calls : Cert.Kernel.pcfgs (F := F) = Cert.KernelIdeal.pcfgs (F := F) := rfl

set_option maxHeartbeats 4000000 in
theorem table : Cert.Kernel.defs (F := F) = Cert.KernelIdeal.defs (F := F) :=
  congrArg (Pipeline.defs (Cert.Kernel.pcfgs (F := F))) bodies

set_option maxHeartbeats 4000000 in
theorem mains : Cert.Kernel.main (F := F) = Cert.KernelIdeal.main (F := F) := by rfl

end Cert.Same

end
-- ==== Proof.Ref.lean ====
/-
  The reference's run: a straight line of host operations, which leaves in each buffer what the line computes from the
  arguments, and the arguments as they were.
-/
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.ReadAt

@[expose] public section

set_option maxRecDepth 16384

noncomputable section

namespace Cert.Ref

open Cert.ReferenceIdeal Idealize.ShloMosaic

open Idealize.SL Idealize.SL.Sem Idealize.ShloMosaic.TcCoe Idealize.ShloMosaic.StableHlo

variable [Cert.ReferenceIdeal.Facts]

/-- The reference's operations in order, with the proof that the program is that line. -/
def line : {ops : List (HloOp τ sig (Elt Ideal)) // ∀ d, StableHlo.IsSeq (main (F := Ideal) d) ops} := by
  apply Subtype.mk
  hlo_seq

theorem held : line.1.Forall fun op => op.bufs ⊆ StableHlo.tcRefs τ sig := by
  simp [line]

theorem fresh : ∀ op ∈ line.1, op.fresh = ∅ := by
  intro _ h; (repeat (cases h with | head => rfl | tail _ h => ?_)); exact nomatch h

variable (m : (ℓ : Loc nD τ sig) → Buf (Elt Ideal) ℓ) (c : Dev nD)

/-- What the reference leaves in the buffers of one device. -/
abbrev V : Valuation τ sig (Elt Ideal) :=
  StableHlo.after line.1 (StableHlo.launchContents m c)

theorem run (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = V m c (Proc.devRef .tc b)) :=
  StableHlo.run_hlo _ _ line.2 (by decide) (by decide) held fresh m ρ

theorem arg0 : V m c (Proc.devRef .tc main_arg0) = m ((c.tc : Thread nD τ).loc main_arg0) := by
  after_reads_simp
theorem arg1 : V m c (Proc.devRef .tc main_arg1) = m ((c.tc : Thread nD τ).loc main_arg1) := by
  after_reads_simp
theorem arg2 : V m c (Proc.devRef .tc main_arg2) = m ((c.tc : Thread nD τ).loc main_arg2) := by
  after_reads_simp
theorem arg3 : V m c (Proc.devRef .tc main_arg3) = m ((c.tc : Thread nD τ).loc main_arg3) := by
  after_reads_simp
theorem arg4 : V m c (Proc.devRef .tc main_arg4) = m ((c.tc : Thread nD τ).loc main_arg4) := by
  after_reads_simp
theorem arg5 : V m c (Proc.devRef .tc main_arg5) = m ((c.tc : Thread nD τ).loc main_arg5) := by
  after_reads_simp

/-- The reference leaves its arguments as they were, and it has no semaphore to leave raised. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h c _).trans (arg0 m c), (h c _).trans (arg1 m c), (h c _).trans (arg2 m c), (h c _).trans (arg3 m c),
     (h c _).trans (arg4 m c), (h c _).trans (arg5 m c)⟩, sem_eq_zero_of_no_sems (by decide) _⟩) (run m ρ)

end Cert.Ref

end

end
-- ==== Proof.Gate.lean ====
/-
  The gate call: sixteen points over eight blocks of 1024 tokens. The first eight points fill the residual-weight rows
  of their block in a scratch array and gather one flag, whether any weight so far exceeds 1/8, in a scratch word; the
  last eight read a block's rows and the flag back and store the block's normalised gate weights.
  Here: what each kind of point does, the invariant between points, and the proof data of the call entered at any
  contents of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.ValueIdxCore
public import Idealize.ShloMosaic.Lib.WritesUnit
public import Idealize.ShloMosaic.Lib.WordCmp

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch: at the first point only. -/
abbrev isFirst (i : grid0.Coords) : Prop :=
  (Scalar.cmpi .ne (Scalar.extui (Scalar.cmpi .eq (BitVec.ofNat 32 (i 0).val) 0#32)) 0#32) = 1#1

theorem isFirst_iff : ∀ t : Fin grid0.N, isFirst (grid0.coords t) ↔ t.val = 0 := by decide +kernel
theorem fills_iff : ∀ t : Fin grid0.N, k0_cond2 (grid0.coords t) = 1#1 ↔ t.val < 8 := by decide +kernel
theorem stores_iff : ∀ t : Fin grid0.N, k0_cond3 (grid0.coords t) = 1#1 ↔ 8 ≤ t.val := by decide +kernel
theorem fillRow : ∀ t : Fin grid0.N, k0_off1 (grid0.coords t) = ![1024 * t.val, 0] := by decide +kernel
theorem readRow : ∀ t : Fin grid0.N, 8 ≤ t.val → k0_off2 (grid0.coords t) = ![1024 * (t.val - 8), 0] := by decide +kernel

/-! ## The values -/

abbrev rTok : Rect S1024x768 := Rect.unit (s := S1024x768) ![0, 0] S1024x768.size inb_S1024x768_S1024x768_0_0
abbrev rV : Rect S768x64 := Rect.unit (s := S768x64) ![0, 0] S768x64.size inb_S768x64_S768x64_0_0
abbrev rG0 : Rect S3x64x64 := Rect.unit (s := S3x64x64) ![0, 0, 0] S1x64x64.size inb_S3x64x64_S1x64x64_0_0_0
abbrev rG1 : Rect S3x64x64 := Rect.unit (s := S3x64x64) ![1, 0, 0] S1x64x64.size inb_S3x64x64_S1x64x64_1_0_0
abbrev rG2 : Rect S3x64x64 := Rect.unit (s := S3x64x64) ![2, 0, 0] S1x64x64.size inb_S3x64x64_S1x64x64_2_0_0
abbrev rOut : Rect S1024x8 := Rect.unit (s := S1024x8) ![0, 0] S1024x8.size inb_S1024x8_S1024x8_0_0
abbrev rFlag : Rect S1 := Rect.unit (s := S1) ![0] S1.size inb_S1_S1_0
/-- The scratch rows a filling point writes, and those a storing point reads. -/
abbrev rFill (i : grid0.Coords) (h : k0_cond2 i = 1#1) : Rect S8192x8 := Rect.unit (s := S8192x8) (k0_off1 i) S1024x8.size (k0_off1_inb i h)
abbrev rRead (i : grid0.Coords) (h : k0_cond3 i = 1#1) : Rect S8192x8 := Rect.unit (s := S8192x8) (k0_off2 i) S1024x8.size (k0_off2_inb i h)

section Values

variable (x : Vec F S1024x768 .f32) (v : Vec F S768x64 .bf16) (g : Vec F S3x64x64 .bf16)

/-- The squared residuals' two parts and the squared norms of a block's rows. -/
def part1 : FVec F S1024x8 .f32 :=
  k0_pay14 (k0_pay10 (View.ld x rTok) (View.ld v rV)) (k0_pay11 (View.ld x rTok) (View.ld v rV)) k0_pay12
def part2 : FVec F S1024x8 .f32 :=
  k0_pay15 (k0_pay9 (View.ld x rTok) (View.ld v rV)) (k0_pay10 (View.ld x rTok) (View.ld v rV)) k0_pay12
    (View.ld g rG0) (View.ld g rG1) (View.ld g rG2)
def part3 : FVec F S1024 .f32 := k0_pay16 (k0_pay5 (View.ld x rTok))

/-- The residual weights of a block's rows, and whether one of them exceeds 1/8. -/
def rwVal : FVec F S1024x8 .f32 := k0_pay2 (part1 x v) (part2 x v g) (part3 x)
def anyVal : BitVec 32 := extractAt ![0, 0, 0] (k0_pay3 (part1 x v) (part2 x v g) (part3 x)) inpos_S1x1x1_p0_0_0

/-- The gate weights stored for a block, from its residual weights and the flag. -/
def nwVal (r : Vec F S1024x8 .f32) (a : BitVec 32) : FVec F S1024x8 .f32 :=
  k0_pay4 (k0_pay17 r a) (k0_pay18 r a) (Scalar.ofBits .f32 0x00000000#32)

/-- The output block those stores leave: the one store covers it. -/
def nwBlk (r : Vec F S1024x8 .f32) (a : BitVec 32) : Vec F S1024x8 .f32 := View.canon [⟨rOut, nwVal r a⟩]

end Values

theorem cover_out (p : Vec F S1024x8 .f32) (y : S1024x8.Idx) :
    ∃ pc ∈ ([⟨rOut, p⟩] : List (View.Piece (Elt F) S1024x8 .f32)), y ∈ pc.1.set :=
  View.cover_of_tiled [⟨rOut, p⟩] S1024x8.size (by rfl) y

theorem cover_flag (p : Vec F S1 .i32) (L : List (View.Piece (Elt F) S1 .i32)) (y : S1.Idx) :
    ∃ pc ∈ ((⟨rFlag, p⟩ :: L) : List (View.Piece (Elt F) S1 .i32)), y ∈ pc.1.set := by
  obtain ⟨pc, hm, hy⟩ := View.cover_of_tiled (Val := Elt F) (e := .i32) [⟨rFlag, p⟩] S1.size (by rfl) y
  exact ⟨pc, List.mem_cons.mpr (.inl (List.mem_singleton.mp hm)), hy⟩

/-- A buffer after one store over a rectangle reads as it did, with the rectangle's part replaced. -/
theorem read_one {sp : Space} {s : Shape} {e : EltTy} (M : View sig .tc sp s e) (f : M.ty.Contents (Elt F)) (r : Rect s)
    (w : r.shape.Idx → Elt F e) : M.read (Elt F) (M.writes (Elt F) f [⟨r, w⟩]) = r.overlay (M.read (Elt F) f) w := by
  funext y
  by_cases hy : y ∈ r.set
  · rw [← Rect.map_emb_univ, Finset.mem_map] at hy
    obtain ⟨x, -, rfl⟩ := hy
    rw [Rect.overlay_emb]
    exact View.read_writes_cons_emb M f r w [] x
  · rw [Rect.overlay_of_not_mem _ _ _ hy]
    exact View.read_writes_cons_miss M f ⟨r, w⟩ [] y hy

/-- The scratch word after a store reads the stored word. -/
theorem read_flag {sp : Space} (M : View sig .tc sp S1 .i32) (f : M.ty.Contents (Elt F)) (a : BitVec 32)
    (L : List (View.Piece (Elt F) S1 .i32)) :
    M.read (Elt F) (M.writes (Elt F) f ((⟨rFlag, fun _ => a⟩ : View.Piece (Elt F) S1 .i32) :: L)) = fun _ => a := by
  funext y
  have hy : y ∈ rFlag.set := by
    obtain ⟨pc, hm, hy⟩ := View.cover_of_tiled (Val := Elt F) (e := .i32) [⟨rFlag, fun _ => a⟩] S1.size (by rfl) y
    rw [List.mem_singleton.mp hm] at hy; exact hy
  rw [← Rect.map_emb_univ, Finset.mem_map] at hy
  obtain ⟨x, -, rfl⟩ := hy
  exact View.read_writes_cons_emb M f rFlag (fun _ => a) L x

/-! ## The three kinds of point -/

set_option maxHeartbeats 2000000 in
/-- The first point: the flag starts at zero, whatever the scratch held. -/
theorem triple_first (c : Dev nD) (E : Set ℕ) (i : grid0.Coords)
    (M1 : Memref sig .tc .vmem S1024x768 .f32) (h1 : M1.IsWhole) (M2 : Memref sig .tc .vmem S768x64 .bf16) (h2 : M2.IsWhole)
    (M3 : Memref sig .tc .vmem S3x64x64 .bf16) (h3 : M3.IsWhole) (M4 : Memref sig .tc .vmem S1024x8 .f32) (h4 : M4.IsWhole)
    (M5 : Memref sig .tc .vmem S8192x8 .f32) (h5 : M5.IsWhole) (M6 : Memref sig .tc .smem S1 .i32) (h6 : M6.IsWhole)
    (hc0 : isFirst i) (hc1 : k0_cond2 i = 1#1) (hc2 : ¬ k0_cond3 i = 1#1)
    (x : Vec F S1024x768 .f32) (v : Vec F S768x64 .bf16) (g : Vec F S3x64x64 .bf16) (d4 : Vec F S1024x8 .f32)
    (d : Vec F S8192x8 .f32) (K : PUnit → sProp 𝕄) :
    iprop(owns (c : Thread nD τ) M1 fullShare x ∗ owns (c : Thread nD τ) M2 fullShare v ∗ owns (c : Thread nD τ) M3 fullShare g
        ∗ owns (c : Thread nD τ) M4 fullShare d4 ∗ owns (c : Thread nD τ) M5 fullShare d ∗ (∃ a, owns (c : Thread nD τ) M6 fullShare a)
        ∗ (iprop(owns (c : Thread nD τ) M1 fullShare x ∗ owns (c : Thread nD τ) M2 fullShare v ∗ owns (c : Thread nD τ) M3 fullShare g
            ∗ owns (c : Thread nD τ) M4 fullShare d4 ∗ owns (c : Thread nD τ) M5 fullShare ((rFill i hc1).overlay d (rwVal x v g))
            ∗ owns (c : Thread nD τ) M6 fullShare (fun _ => Scalar.maxsi 0#32 (anyVal x v g))) -∗ K ⟨⟩))
      ⊢ wp frame (wpE (defs₀ (F := F)) Variants.none c none) E
          (cc0__gate_kernel i M1 h1 M2 h2 M3 h3 M4 h4 M5 h5 M6 h6) K := by
  simp only [cc0__gate_kernel_eq_skeleton]; unfold cc0__gate_kernel_skel
  simp only [k0_part1_eq_skeleton, k0_part2_eq_skeleton]
  unfold owns
  iintro ⟨⟨%f1, %e1, H1⟩, ⟨%f2, %e2, H2⟩, ⟨%f3, %e3, H3⟩, ⟨%f4, %e4, H4⟩, ⟨%f5, %e5, H5⟩, ⟨%a6, %f6, -, H6⟩, Hk⟩
  subst e1 e2 e3 e4 e5
  sl_exec (disch := first | sl_exact hc0 | sl_exact hc1 | sl_exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact read_one _ _ _ _
  iexists _; isplitr
  swap; · iexact H6
  ipureintro
  refine (read_flag _ _ _ _).trans ?_
  rfl

set_option maxHeartbeats 2000000 in
/-- The other filling points: the flag takes this block's part in. -/
theorem triple_fill (c : Dev nD) (E : Set ℕ) (i : grid0.Coords)
    (M1 : Memref sig .tc .vmem S1024x768 .f32) (h1 : M1.IsWhole) (M2 : Memref sig .tc .vmem S768x64 .bf16) (h2 : M2.IsWhole)
    (M3 : Memref sig .tc .vmem S3x64x64 .bf16) (h3 : M3.IsWhole) (M4 : Memref sig .tc .vmem S1024x8 .f32) (h4 : M4.IsWhole)
    (M5 : Memref sig .tc .vmem S8192x8 .f32) (h5 : M5.IsWhole) (M6 : Memref sig .tc .smem S1 .i32) (h6 : M6.IsWhole)
    (hc0 : ¬ isFirst i) (hc1 : k0_cond2 i = 1#1) (hc2 : ¬ k0_cond3 i = 1#1)
    (x : Vec F S1024x768 .f32) (v : Vec F S768x64 .bf16) (g : Vec F S3x64x64 .bf16) (d4 : Vec F S1024x8 .f32)
    (d : Vec F S8192x8 .f32) (a : BitVec 32) (K : PUnit → sProp 𝕄) :
    iprop(owns (c : Thread nD τ) M1 fullShare x ∗ owns (c : Thread nD τ) M2 fullShare v ∗ owns (c : Thread nD τ) M3 fullShare g
        ∗ owns (c : Thread nD τ) M4 fullShare d4 ∗ owns (c : Thread nD τ) M5 fullShare d ∗ owns (c : Thread nD τ) M6 fullShare (fun _ => a)
        ∗ (iprop(owns (c : Thread nD τ) M1 fullShare x ∗ owns (c : Thread nD τ) M2 fullShare v ∗ owns (c : Thread nD τ) M3 fullShare g
            ∗ owns (c : Thread nD τ) M4 fullShare d4 ∗ owns (c : Thread nD τ) M5 fullShare ((rFill i hc1).overlay d (rwVal x v g))
            ∗ owns (c : Thread nD τ) M6 fullShare (fun _ => Scalar.maxsi a (anyVal x v g))) -∗ K ⟨⟩))
      ⊢ wp frame (wpE (defs₀ (F := F)) Variants.none c none) E
          (cc0__gate_kernel i M1 h1 M2 h2 M3 h3 M4 h4 M5 h5 M6 h6) K := by
  simp only [cc0__gate_kernel_eq_skeleton]; unfold cc0__gate_kernel_skel
  simp only [k0_part1_eq_skeleton, k0_part2_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  subst e1 e2 e3 e4 e5
  sl_exec (disch := first | sl_exact hc0 | sl_exact hc1 | sl_exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact read_one _ _ _ _
  iexists _; isplitr
  swap; · iexact H6
  ipureintro
  refine (read_flag _ _ _ _).trans ?_
  obtain rfl : a = M6.view.read (Elt F) f6 (rFlag.point numel1_S1) := (congrFun e6 _).symm
  rfl

set_option maxHeartbeats 2000000 in
/-- The storing points: the scratch is read only. -/
theorem triple_store (c : Dev nD) (E : Set ℕ) (i : grid0.Coords)
    (M1 : Memref sig .tc .vmem S1024x768 .f32) (h1 : M1.IsWhole) (M2 : Memref sig .tc .vmem S768x64 .bf16) (h2 : M2.IsWhole)
    (M3 : Memref sig .tc .vmem S3x64x64 .bf16) (h3 : M3.IsWhole) (M4 : Memref sig .tc .vmem S1024x8 .f32) (h4 : M4.IsWhole)
    (M5 : Memref sig .tc .vmem S8192x8 .f32) (h5 : M5.IsWhole) (M6 : Memref sig .tc .smem S1 .i32) (h6 : M6.IsWhole)
    (hc0 : ¬ isFirst i) (hc1 : ¬ k0_cond2 i = 1#1) (hc2 : k0_cond3 i = 1#1)
    (x : Vec F S1024x768 .f32) (v : Vec F S768x64 .bf16) (g : Vec F S3x64x64 .bf16) (d4 : Vec F S1024x8 .f32)
    (d : Vec F S8192x8 .f32) (a : BitVec 32) (K : PUnit → sProp 𝕄) :
    iprop(owns (c : Thread nD τ) M1 fullShare x ∗ owns (c : Thread nD τ) M2 fullShare v ∗ owns (c : Thread nD τ) M3 fullShare g
        ∗ owns (c : Thread nD τ) M4 fullShare d4 ∗ owns (c : Thread nD τ) M5 fullShare d ∗ owns (c : Thread nD τ) M6 fullShare (fun _ => a)
        ∗ (iprop(owns (c : Thread nD τ) M1 fullShare x ∗ owns (c : Thread nD τ) M2 fullShare v ∗ owns (c : Thread nD τ) M3 fullShare g
            ∗ owns (c : Thread nD τ) M4 fullShare (nwBlk (View.ld d (rRead i hc2)) a) ∗ owns (c : Thread nD τ) M5 fullShare d
            ∗ owns (c : Thread nD τ) M6 fullShare (fun _ => a)) -∗ K ⟨⟩))
      ⊢ wp frame (wpE (defs₀ (F := F)) Variants.none c none) E
          (cc0__gate_kernel i M1 h1 M2 h2 M3 h3 M4 h4 M5 h5 M6 h6) K := by
  simp only [cc0__gate_kernel_eq_skeleton]; unfold cc0__gate_kernel_skel
  simp only [k0_part3_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  subst e1 e2 e3 e4 e5
  sl_exec (disch := first | sl_exact hc0 | sl_exact hc1 | sl_exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_out _)).trans ?_
    obtain rfl : a = M6.view.read (Elt F) f6 (rFlag.point numel1_S1) := (congrFun e6 _).symm
    rfl
  isplitl [H5]
  · iexists f5; isplitr; · ipureintro; rfl
    iexact H5
  iexists f6; isplitr; · ipureintro; exact e6
  iexact H6

/-! ## The call's proof data -/

section Data

variable (W : (c : Dev nD) → Valuation τ sig (Elt F))

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The residual weights and the flag's part computed at point `t`. -/
def rwAt (c : Dev nD) (t : Fin cfg0.N) : Vec F S1024x8 .f32 := rwVal (blk W c 0 t) (blk W c 1 t) (blk W c 2 t)
def anyBlk (c : Dev nD) (t : Fin cfg0.N) : BitVec 32 := anyVal (blk W c 0 t) (blk W c 1 t) (blk W c 2 t)

/-- The flag after the first `n` points. -/
def anyAt (c : Dev nD) : ℕ → BitVec 32
  | 0 => 0#32
  | n + 1 => if h : n < grid0.N then Scalar.maxsi (anyAt c n) (anyBlk W c ⟨n, h⟩) else anyAt c n

theorem anyAt_succ (c : Dev nD) (t : Fin cfg0.N) : anyAt W c (t.val + 1) = Scalar.maxsi (anyAt W c t.val) (anyBlk W c t) :=
  dif_pos t.isLt

/-- The point that fills the rows `y` lies in. -/
def ptOf (n : ℕ) : Fin cfg0.N := ⟨n % 16, by rw [show cfg0.N = 16 from N_0]; omega⟩

/-- The gate weights of the block a storing point handles. -/
def outAt (c : Dev nD) (t : Fin cfg0.N) : Vec F S1024x8 .f32 := nwBlk (rwAt W c (ptOf (t.val - 8))) (anyAt W c 8)

/-- The first `n` blocks of the scratch rows hold their residual weights. -/
def Good (c : Dev nD) (n : ℕ) (d : Vec F S8192x8 .f32) : Prop :=
  ∀ (k : Fin cfg0.N) (x : S1024x8.Idx) (y : S8192x8.Idx), k.val < n → (y 0).val = 1024 * k.val + (x 0).val → (y 1).val = (x 1).val →
    d y = rwAt W c k x

theorem good_zero (c : Dev nD) (d : Vec F S8192x8 .f32) : Good W c 0 d := fun _ _ _ h => absurd h (Nat.not_lt_zero _)

/-- A filling point fills its own block and leaves the others. -/
theorem good_fill (c : Dev nD) (t : Fin cfg0.N) (h : k0_cond2 (grid0.coords t) = 1#1) (d : Vec F S8192x8 .f32) (hd : Good W c t.val d) :
    Good W c (t.val + 1) ((rFill (grid0.coords t) h).overlay d (rwAt W c t)) := by
  intro k x y hk h0 h1
  have hoff : (rFill (grid0.coords t) h).off = ![1024 * t.val, 0] := fillRow t
  by_cases e : k = t
  · subst e
    have hy : (rFill (grid0.coords k) h).emb x = y := by
      refine Rect.emb_eq_of_coords _ _ _ fun a => ?_
      rw [hoff]
      match a with
      | ⟨0, _⟩ => exact h0.trans (by show _ = 1024 * k.val + 1 * (x 0).val; omega)
      | ⟨1, _⟩ => exact h1.trans (by show _ = 0 + 1 * (x 1).val; omega)
    rw [← hy, Rect.overlay_emb]
  · have hlt : k.val < t.val := by have : k.val ≠ t.val := fun h => e (Fin.ext h); omega
    rw [Rect.overlay_of_not_mem]
    · exact hd k x y hlt h0 h1
    · have hx : (x 0).val < 1024 := (x 0).isLt
      refine Rect.not_mem_set_of_axis _ y (0 : Fin 2) (1024 * t.val) 1024 (by rw [hoff]; rfl) rfl rfl (.inl ?_)
      rw [h0]; omega

/-- Once the eight blocks are filled, a later point changes nothing. -/
theorem good_keep (c : Dev nD) (t : Fin cfg0.N) (h : 8 ≤ t.val) (d : Vec F S8192x8 .f32) (hd : Good W c t.val d) : Good W c (t.val + 1) d := by
  intro k x y hk h0 h1
  have hy : (y 0).val < 8192 := (y 0).isLt
  exact hd k x y (by omega) h0 h1

/-- What a storing point reads of the filled scratch. -/
theorem ld_good (c : Dev nD) (t : Fin cfg0.N) (h8 : 8 ≤ t.val) (h : k0_cond3 (grid0.coords t) = 1#1) (d : Vec F S8192x8 .f32) (hd : Good W c t.val d) :
    View.ld d (rRead (grid0.coords t) h) = rwAt W c (ptOf (t.val - 8)) := by
  have ht : t.val < 16 := Nat.lt_of_lt_of_eq t.isLt N_0
  have hoff : (rRead (grid0.coords t) h).off = ![1024 * (t.val - 8), 0] := readRow t h8
  funext x
  have hp : (ptOf (t.val - 8)).val = t.val - 8 := Nat.mod_eq_of_lt (by omega)
  refine hd (ptOf (t.val - 8)) x ((rRead (grid0.coords t) h).idx x) (by rw [hp]; omega) ?_ ?_
  · show (rRead (grid0.coords t) h).off (0 : Fin 2) + 1 * (x 0).val = _
    rw [hoff, hp]; show 1024 * (t.val - 8) + 1 * (x 0).val = _; omega
  · show (rRead (grid0.coords t) h).off (1 : Fin 2) + 1 * (x 1).val = _
    rw [hoff]; show 0 + 1 * (x 1).val = _; omega

/-- The two scratch operands. -/
abbrev scRows : Memref sig .tc .vmem S8192x8 .f32 := Memref.whole cc0_scratch0
abbrev scFlag : Memref sig .tc .smem S1 .i32 := Memref.whole cc0_scratch1

/-- A buffer of the core whole at some contents. -/
def some_ (c : Dev nD) (b : Ref sig .tc) : sProp 𝕄 :=
  iprop(∃ f : Buf (Elt F) ((c : Thread nD τ).loc b), ((c : Thread nD τ).loc b) ↦{fullShare} f)

/-- The buffers of the other call, which this one passes through. -/
def others (c : Dev nD) : sProp 𝕄 :=
  iprop(some_ (F := F) c cc1_stg0_0 ∗ some_ (F := F) c cc1_stg0_1 ∗ some_ (F := F) c cc1_stg1_0 ∗ some_ (F := F) c cc1_stg1_1
    ∗ some_ (F := F) c cc1_stg2_0 ∗ some_ (F := F) c cc1_stg3_0 ∗ some_ (F := F) c cc1_stg4_0 ∗ some_ (F := F) c cc1_stg5_0
    ∗ some_ (F := F) c cc1_stg6_0 ∗ some_ (F := F) c cc1_stg6_1)

/-- Between points: the filled blocks hold their residual weights and the flag, once set, their maximum. -/
def PhiS (c : Dev nD) (n : ℕ) : sProp 𝕄 :=
  iprop((∃ d, ⌜Good W c n d⌝ ∗ owns (c : Thread nD τ) scRows fullShare d)
    ∗ (∃ a, ⌜0 < n → a = fun _ => anyAt W c (min n 8)⌝ ∗ owns (c : Thread nD τ) scFlag fullShare a)
    ∗ others (F := F) c ∗ (∃ r, prngReg c r))

theorem PhiA_eq (c : Dev nD) :
    (Pipeline.ΦA spec0 c : sProp 𝕄)
      = iprop(((∃ d, owns (c : Thread nD τ) scRows fullShare d) ∗ some_ (F := F) c cc1_stg0_0 ∗ some_ (F := F) c cc1_stg0_1
        ∗ some_ (F := F) c cc1_stg1_0 ∗ some_ (F := F) c cc1_stg1_1 ∗ some_ (F := F) c cc1_stg2_0 ∗ some_ (F := F) c cc1_stg3_0
        ∗ some_ (F := F) c cc1_stg4_0 ∗ some_ (F := F) c cc1_stg5_0 ∗ some_ (F := F) c cc1_stg6_0 ∗ some_ (F := F) c cc1_stg6_1
        ∗ (∃ d, owns (c : Thread nD τ) scFlag fullShare d)) ∗ (∃ r, prngReg c r)) := by
  unfold Pipeline.ΦA some_; rw [scopedRest0_eq]; simp only [scRows, scFlag, owns_whole]; try rfl

theorem phi_in (c : Dev nD) : (Pipeline.ΦA spec0 c : sProp 𝕄) ⊢ PhiS W c 0 := by
  rw [PhiA_eq]; unfold PhiS others
  iintro ⟨⟨⟨%d, HR⟩, A0, A1, A2, A3, A4, A5, A6, A7, A8, A9, ⟨%a, HF⟩⟩, HP⟩
  isplitl [HR]
  · iexists d; isplitr; · ipureintro; exact good_zero W c d
    iexact HR
  isplitl [HF]
  · iexists a; isplitr; · ipureintro; exact fun h => absurd h (Nat.lt_irrefl 0)
    iexact HF
  isplitr [HP]; swap; · iexact HP
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

theorem phi_out (c : Dev nD) (n : ℕ) : PhiS W c n ⊢ (Pipeline.ΦA spec0 c : sProp 𝕄) := by
  rw [PhiA_eq]; unfold PhiS others
  iintro ⟨⟨%d, -, HR⟩, ⟨%a, -, HF⟩, ⟨A0, A1, A2, A3, A4, A5, A6, A7, A8, A9⟩, HP⟩
  isplitr [HP]; swap; · iexact HP
  isplitl [HR]; · iexists d; iexact HR
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexists a; iexact HF

/-- The arrays as found; after a point each input's buffer at its block and, at a storing point, the output's at its
    gate weights; the invariant between points; nothing owed. -/
def dat (c : Dev nD) : Dat τ (Elt F) Unit ℕ (UR sig nD τ) ℕ cfg0 c where
  A w := W c (Proc.devRef .tc (Pipeline.arrRef spec0 w))
  after w t := match w with
    | ⟨0, _⟩ => blk W c 0 t
    | ⟨1, _⟩ => blk W c 1 t
    | ⟨2, _⟩ => blk W c 2 t
    | ⟨3, _⟩ => outAt W c t
  Φ t := PhiS W c t.val
  q _ := fullShare
  owed _ := 0

theorem dat_A (c : Dev nD) (w : Fin cfg0.W) : (dat W c).A w = W c (Proc.devRef .tc (Pipeline.arrRef spec0 w)) := by
  dsimp only [dat]

theorem after_0 (c : Dev nD) (t : Fin cfg0.N) : (dat W c).after 0 t = blk W c 0 t := by dsimp only [dat]
theorem after_1 (c : Dev nD) (t : Fin cfg0.N) : (dat W c).after 1 t = blk W c 1 t := by dsimp only [dat]
theorem after_2 (c : Dev nD) (t : Fin cfg0.N) : (dat W c).after 2 t = blk W c 2 t := by dsimp only [dat]
theorem after_out (c : Dev nD) (t : Fin cfg0.N) : (dat W c).after 3 t = outAt W c t := by dsimp only [dat]

/-- An input window whose block is left in place holds its block at every point. -/
theorem before_input (c : Dev nD) (w : Fin cfg0.W) (hw : (cfg0.win w).isOut = false) (hidle : ∀ t, cfg0.idle w t = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dat W c).after w t) = (dat W c).blockOf w t)
    (t : Fin cfg0.N) (d) : (dat W c).before w t d = (dat W c).fetched w t d :=
  (dat W c).before_in_eq_fetched w hw hidle hclip hkeep t d

theorem before_0 (c : Dev nD) (t : Fin cfg0.N) (d) : (dat W c).before 0 t d = blk W c 0 t :=
  before_input W c 0 rfl (fun _ => rfl) (fun _ _ _ => rfl) (fun _ => rfl) t d
theorem before_1 (c : Dev nD) (t : Fin cfg0.N) (d) : (dat W c).before 1 t d = blk W c 1 t :=
  before_input W c 1 rfl (fun _ => rfl) (fun _ _ _ => rfl) (fun _ => rfl) t d
theorem before_2 (c : Dev nD) (t : Fin cfg0.N) (d) : (dat W c).before 2 t d = blk W c 2 t :=
  before_input W c 2 rfl (fun _ => rfl) (fun _ _ _ => rfl) (fun _ => rfl) t d

theorem live_0 (c : Dev nD) (t : Fin cfg0.N) : (dat W c).leavesExact 0 t = owns (c : Thread nD τ) (st0_0 t) fullShare (blk W c 0 t) := by
  unfold Dat.leavesExact; rw [show cfg0.idle 0 (cfg0.grid.coords t) = false from rfl, after_0]
theorem live_1 (c : Dev nD) (t : Fin cfg0.N) : (dat W c).leavesExact 1 t = owns (c : Thread nD τ) (st0_1 t) fullShare (blk W c 1 t) := by
  unfold Dat.leavesExact; rw [show cfg0.idle 1 (cfg0.grid.coords t) = false from rfl, after_1]
theorem live_2 (c : Dev nD) (t : Fin cfg0.N) : (dat W c).leavesExact 2 t = owns (c : Thread nD τ) (st0_2 t) fullShare (blk W c 2 t) := by
  unfold Dat.leavesExact; rw [show cfg0.idle 2 (cfg0.grid.coords t) = false from rfl, after_2]

theorem idle_fill : ∀ t : Fin cfg0.N, t.val < 8 → cfg0.idle 3 (cfg0.grid.coords t) = true := by decide +kernel
theorem noflush_fill : ∀ t : Fin cfg0.N, t.val < 8 → (cfg0.win 3).flush t = false := by decide +kernel
theorem live_store : ∀ t : Fin cfg0.N, 8 ≤ t.val → cfg0.idle 3 (cfg0.grid.coords t) = false := by decide +kernel
theorem flush_store : ∀ t : Fin cfg0.N, 8 ≤ t.val → (cfg0.win 3).flush t = true := by decide +kernel

theorem out_fill (c : Dev nD) (t : Fin cfg0.N) (h : t.val < 8) :
    (dat W c).leavesExact 3 t = iprop(∃ d, owns (c : Thread nD τ) (st0_3 t) fullShare ((dat W c).before 3 t d)) :=
  (dat W c).leavesExact_idle 3 t (idle_fill t h) (noflush_fill t h)
theorem out_store (c : Dev nD) (t : Fin cfg0.N) (h : 8 ≤ t.val) :
    (dat W c).leavesExact 3 t = owns (c : Thread nD τ) (st0_3 t) fullShare (outAt W c t) := by
  unfold Dat.leavesExact; rw [live_store t h, after_out]

/-- What the body is called with at point `t`, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d)))

/-- and what it returns. -/
def bodyPost (c : Dev nD) (t : Fin cfg0.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t)

theorem phi_pre (c : Dev nD) (t : Fin cfg0.N) : (dat W c).Φ t.castSucc = PhiS W c t.val := by dsimp only [dat]; rfl
theorem phi_post (c : Dev nD) (t : Fin cfg0.N) : (dat W c).Φ t.succ = PhiS W c (t.val + 1) := by dsimp only [dat]; rfl

set_option maxHeartbeats 2000000 in
theorem body_point (c : Dev nD) (t : Fin cfg0.N) :
    bodyPre W c t ⊢ wp frame (wpE (defs₀ (F := F)) Variants.none c none) Set.univ (bodyAt0 t) (fun _ => bodyPost W c t) := by
  have ht : t.val < 16 := Nat.lt_of_lt_of_eq t.isLt N_0
  unfold bodyPre bodyPost bodyAt0
  simp only [before_0, before_1, before_2]
  rw [phi_pre, phi_post, live_0, live_1, live_2,
    show (dat W c).owesAt () t.succ = (dat W c).owesAt () t.castSucc from rfl]
  by_cases h8 : t.val < 8
  · have hc1 : k0_cond2 (grid0.coords t) = 1#1 := (fills_iff t).mpr h8
    have hc2 : ¬ k0_cond3 (grid0.coords t) = 1#1 := fun h => absurd ((stores_iff t).mp h) (by omega)
    rw [out_fill W c t h8]
    unfold PhiS
    iintro ⟨⟨⟨%d, %hd, HR⟩, ⟨%a, %ha, HF⟩, HA, HP⟩, Ho, ⟨%d0, H0⟩, ⟨%d1, H1⟩, ⟨%d2, H2⟩, ⟨%d3, H3⟩⟩
    by_cases hz : t.val = 0
    · iapply (triple_first c Set.univ (grid0.coords t) _ _ _ _ _ _ _ _ _ _ _ _ ((isFirst_iff t).mpr hz) hc1 hc2
        (blk W c 0 t) (blk W c 1 t) (blk W c 2 t) ((dat W c).before 3 t d3) d _)
      isplitl [H0]; · iexact H0
      isplitl [H1]; · iexact H1
      isplitl [H2]; · iexact H2
      isplitl [H3]; · iexact H3
      isplitl [HR]; · iexact HR
      isplitl [HF]; · iexists a; iexact HF
      iintro ⟨H0, H1, H2, H3, HR, HF⟩
      isplitl [HR HF HA HP]
      · isplitl [HR]
        · iexists _; isplitr; · ipureintro; exact good_fill W c t hc1 d hd
          iexact HR
        isplitl [HF]
        · iexists _; isplitr
          swap; · iexact HF
          ipureintro
          intro _
          rw [Nat.min_eq_left (by omega), anyAt_succ, hz]; rfl
        isplitl [HA]; · iexact HA
        iexact HP
      isplitl [Ho]; · iexact Ho
      isplitl [H0]; · iexact H0
      isplitl [H1]; · iexact H1
      isplitl [H2]; · iexact H2
      iexists d3; iexact H3
    · obtain rfl := ha (by omega)
      iapply (triple_fill c Set.univ (grid0.coords t) _ _ _ _ _ _ _ _ _ _ _ _ (fun h => hz ((isFirst_iff t).mp h)) hc1 hc2
        (blk W c 0 t) (blk W c 1 t) (blk W c 2 t) ((dat W c).before 3 t d3) d (anyAt W c (min t.val 8)) _)
      isplitl [H0]; · iexact H0
      isplitl [H1]; · iexact H1
      isplitl [H2]; · iexact H2
      isplitl [H3]; · iexact H3
      isplitl [HR]; · iexact HR
      isplitl [HF]; · iexact HF
      iintro ⟨H0, H1, H2, H3, HR, HF⟩
      isplitl [HR HF HA HP]
      · isplitl [HR]
        · iexists _; isplitr; · ipureintro; exact good_fill W c t hc1 d hd
          iexact HR
        isplitl [HF]
        · iexists _; isplitr
          swap; · iexact HF
          ipureintro
          intro _
          rw [Nat.min_eq_left (by omega), Nat.min_eq_left (by omega), anyAt_succ]; rfl
        isplitl [HA]; · iexact HA
        iexact HP
      isplitl [Ho]; · iexact Ho
      isplitl [H0]; · iexact H0
      isplitl [H1]; · iexact H1
      isplitl [H2]; · iexact H2
      iexists d3; iexact H3
  · have h8' : 8 ≤ t.val := by omega
    have hc0 : ¬ isFirst (grid0.coords t) := fun h => absurd ((isFirst_iff t).mp h) (by omega)
    have hc1 : ¬ k0_cond2 (grid0.coords t) = 1#1 := fun h => h8 ((fills_iff t).mp h)
    have hc2 : k0_cond3 (grid0.coords t) = 1#1 := (stores_iff t).mpr h8'
    rw [out_store W c t h8']
    unfold PhiS
    iintro ⟨⟨⟨%d, %hd, HR⟩, ⟨%a, %ha, HF⟩, HA, HP⟩, Ho, ⟨%d0, H0⟩, ⟨%d1, H1⟩, ⟨%d2, H2⟩, ⟨%d3, H3⟩⟩
    obtain rfl : a = fun _ => anyAt W c 8 := by rw [ha (by omega), Nat.min_eq_right h8']
    unfold outAt
    rw [← ld_good W c t h8' hc2 d hd]
    iapply (triple_store c Set.univ (grid0.coords t) _ _ _ _ _ _ _ _ _ _ _ _ hc0 hc1 hc2
      (blk W c 0 t) (blk W c 1 t) (blk W c 2 t) ((dat W c).before 3 t d3) d (anyAt W c 8) _)
    isplitl [H0]; · iexact H0
    isplitl [H1]; · iexact H1
    isplitl [H2]; · iexact H2
    isplitl [H3]; · iexact H3
    isplitl [HR]; · iexact HR
    isplitl [HF]; · iexact HF
    iintro ⟨H0, H1, H2, H3, HR, HF⟩
    isplitl [HR HF HA HP]
    · isplitl [HR]
      · iexists _; isplitr; · ipureintro; exact good_keep W c t h8' d hd
        iexact HR
      isplitl [HF]
      · iexists _; isplitr
        swap; · iexact HF
        ipureintro
        intro _
        rw [Nat.min_eq_right (by omega)]
      isplitl [HA]; · iexact HA
      iexact HP
    isplitl [Ho]; · iexact Ho
    isplitl [H0]; · iexact H0
    isplitl [H1]; · iexact H1
    isplitl [H2]; · iexact H2
    iexact H3

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) W c) (defs₀ (F := F)) Variants.none () Set.univ := fun t => by
  rw [bigSep_W0, bigSep_W0, body_row]
  exact triple_restated (body_point W c t) rfl .rfl fun _ => .rfl

end Data

end Cert.Gate

end
-- ==== Proof.Combine.lean ====
/-
  The combine call: eight points, one block of 1024 tokens each. At a point the body reads the token block, its gate
  weights, the base weight and bias, and the eight difference weights and biases, and stores the whole output block.
  Here: what a point leaves in its output block, the body's triple, and the proof data of the call entered at any
  contents of the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body names -/

abbrev rTok : Rect S1024x768 := Rect.unit (s := S1024x768) ![0, 0] S1024x768.size inb_S1024x768_S1024x768_0_0
abbrev rNw : Rect S1024x8 := Rect.unit (s := S1024x8) ![0, 0] S1024x8.size inb_S1024x8_S1024x8_0_0
abbrev rW0 : Rect S768x768 := Rect.unit (s := S768x768) ![0, 0] S768x768.size inb_S768x768_S768x768_0_0
abbrev rB0 : Rect S1x768 := Rect.unit (s := S1x768) ![0, 0] S1x768.size inb_S1x768_S1x768_0_0
abbrev rBd : Rect S8x768 := Rect.unit (s := S8x768) ![0, 0] S8x768.size inb_S8x768_S8x768_0_0
abbrev rE0 : Rect S8x768x768 := Rect.unit (s := S8x768x768) ![0, 0, 0] S1x768x768.size inb_S8x768x768_S1x768x768_0_0_0
abbrev rE1 : Rect S8x768x768 := Rect.unit (s := S8x768x768) ![1, 0, 0] S1x768x768.size inb_S8x768x768_S1x768x768_1_0_0
abbrev rE2 : Rect S8x768x768 := Rect.unit (s := S8x768x768) ![2, 0, 0] S1x768x768.size inb_S8x768x768_S1x768x768_2_0_0
abbrev rE3 : Rect S8x768x768 := Rect.unit (s := S8x768x768) ![3, 0, 0] S1x768x768.size inb_S8x768x768_S1x768x768_3_0_0
abbrev rE4 : Rect S8x768x768 := Rect.unit (s := S8x768x768) ![4, 0, 0] S1x768x768.size inb_S8x768x768_S1x768x768_4_0_0
abbrev rE5 : Rect S8x768x768 := Rect.unit (s := S8x768x768) ![5, 0, 0] S1x768x768.size inb_S8x768x768_S1x768x768_5_0_0
abbrev rE6 : Rect S8x768x768 := Rect.unit (s := S8x768x768) ![6, 0, 0] S1x768x768.size inb_S8x768x768_S1x768x768_6_0_0
abbrev rE7 : Rect S8x768x768 := Rect.unit (s := S8x768x768) ![7, 0, 0] S1x768x768.size inb_S8x768x768_S1x768x768_7_0_0

/-- The value stored at one point, from the six input blocks: the token block, its gate weights, the base weight and
    bias, the difference weights and the difference biases. -/
def outVal (x : Vec F S1024x768 .f32) (nw : Vec F S1024x8 .f32) (w0 : Vec F S768x768 .bf16) (b0 : Vec F S1x768 .f32)
    (wd : Vec F S8x768x768 .bf16) (bd : Vec F S8x768 .f32) : Vec F S1024x768 .f32 :=
  k1_pay5 (k1_pay1 (View.ld x rTok)) (k1_pay2 (View.ld nw rNw))
    (k1_pay3 (View.ld x rTok) (View.ld nw rNw) (View.ld w0 rW0) (View.ld b0 rB0) (View.ld bd rBd) (View.ld wd rE0) (View.ld wd rE1))
    (k1_pay4 (View.ld x rTok) (View.ld nw rNw) (View.ld wd rE2))
    (View.ld wd rE3) (View.ld wd rE4) (View.ld wd rE5) (View.ld wd rE6) (View.ld wd rE7)

/-- The output block a point leaves: the one store covers it. -/
def outBlk (x : Vec F S1024x768 .f32) (nw : Vec F S1024x8 .f32) (w0 : Vec F S768x768 .bf16) (b0 : Vec F S1x768 .f32)
    (wd : Vec F S8x768x768 .bf16) (bd : Vec F S8x768 .f32) : Vec F S1024x768 .f32 :=
  View.canon [⟨rTok, outVal x nw w0 b0 wd bd⟩]

theorem cover_out (p : Vec F S1024x768 .f32) (y : S1024x768.Idx) :
    ∃ pc ∈ ([⟨rTok, p⟩] : List (View.Piece (Elt F) S1024x768 .f32)), y ∈ pc.1.set :=
  View.cover_of_tiled [⟨rTok, p⟩] S1024x768.size (by rfl) y

/-! ## The body's triple -/

set_option maxHeartbeats 1000000 in
/-- From the six inputs held at their contents and the output buffer held at anything, the body runs to the same inputs
    and the output block of their values. -/
theorem body_triple (c : Dev nD) (E : Set ℕ) (i : grid1.Coords)
    (M1 : Memref sig .tc .vmem S1024x768 .f32) (h1 : M1.IsWhole) (M2 : Memref sig .tc .vmem S1024x8 .f32) (h2 : M2.IsWhole)
    (M3 : Memref sig .tc .vmem S768x768 .bf16) (h3 : M3.IsWhole) (M4 : Memref sig .tc .vmem S1x768 .f32) (h4 : M4.IsWhole)
    (M5 : Memref sig .tc .vmem S8x768x768 .bf16) (h5 : M5.IsWhole) (M6 : Memref sig .tc .vmem S8x768 .f32) (h6 : M6.IsWhole)
    (M7 : Memref sig .tc .vmem S1024x768 .f32) (h7 : M7.IsWhole)
    (x : Vec F S1024x768 .f32) (nw : Vec F S1024x8 .f32) (w0 : Vec F S768x768 .bf16) (b0 : Vec F S1x768 .f32)
    (wd : Vec F S8x768x768 .bf16) (bd : Vec F S8x768 .f32) (K : PUnit → sProp 𝕄) :
    iprop(owns (c : Thread nD τ) M1 fullShare x ∗ owns (c : Thread nD τ) M2 fullShare nw ∗ owns (c : Thread nD τ) M3 fullShare w0
        ∗ owns (c : Thread nD τ) M4 fullShare b0 ∗ owns (c : Thread nD τ) M5 fullShare wd ∗ owns (c : Thread nD τ) M6 fullShare bd
        ∗ (∃ d, owns (c : Thread nD τ) M7 fullShare d)
        ∗ (iprop(owns (c : Thread nD τ) M1 fullShare x ∗ owns (c : Thread nD τ) M2 fullShare nw ∗ owns (c : Thread nD τ) M3 fullShare w0
            ∗ owns (c : Thread nD τ) M4 fullShare b0 ∗ owns (c : Thread nD τ) M5 fullShare wd ∗ owns (c : Thread nD τ) M6 fullShare bd
            ∗ owns (c : Thread nD τ) M7 fullShare (outBlk x nw w0 b0 wd bd)) -∗ K ⟨⟩))
      ⊢ wp frame (wpE (defs₀ (F := F)) Variants.none c none) E
          (cc1__combine_kernel i M1 h1 M2 h2 M3 h3 M4 h4 M5 h5 M6 h6 M7 h7) K := by
  simp only [cc1__combine_kernel_eq_skeleton]; unfold cc1__combine_kernel_skel
  simp only [k1_part1_eq_skeleton, k1_part2_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The call's proof data -/

section Data

variable (W : (c : Dev nD) → Valuation τ sig (Elt F))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The output block of point `t`. -/
def outAt (c : Dev nD) (t : Fin cfg1.N) : Vec F S1024x768 .f32 :=
  outBlk (blk W c 0 t) (blk W c 1 t) (blk W c 2 t) (blk W c 3 t) (blk W c 4 t) (blk W c 5 t)

/-- The arrays as found; after a point each input's buffer at its block and the output's at `outAt`; nothing owed. -/
def dat (c : Dev nD) : Dat τ (Elt F) Unit ℕ (UR sig nD τ) ℕ cfg1 c where
  A w := W c (Proc.devRef .tc (Pipeline.arrRef spec1 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => outAt W c t
  Φ _ := Pipeline.ΦA spec1 c
  q _ := fullShare
  owed _ := 0

theorem dat_A (c : Dev nD) (w : Fin cfg1.W) : (dat W c).A w = W c (Proc.devRef .tc (Pipeline.arrRef spec1 w)) := by
  dsimp only [dat]

theorem after_0 (c : Dev nD) (t : Fin cfg1.N) : (dat W c).after 0 t = blk W c 0 t := by dsimp only [dat]
theorem after_1 (c : Dev nD) (t : Fin cfg1.N) : (dat W c).after 1 t = blk W c 1 t := by dsimp only [dat]
theorem after_2 (c : Dev nD) (t : Fin cfg1.N) : (dat W c).after 2 t = blk W c 2 t := by dsimp only [dat]
theorem after_3 (c : Dev nD) (t : Fin cfg1.N) : (dat W c).after 3 t = blk W c 3 t := by dsimp only [dat]
theorem after_4 (c : Dev nD) (t : Fin cfg1.N) : (dat W c).after 4 t = blk W c 4 t := by dsimp only [dat]
theorem after_5 (c : Dev nD) (t : Fin cfg1.N) : (dat W c).after 5 t = blk W c 5 t := by dsimp only [dat]
theorem after_out (c : Dev nD) (t : Fin cfg1.N) : (dat W c).after 6 t = outAt W c t := by dsimp only [dat]

/-- An input window whose block is left in place holds its block at every point. -/
theorem before_input (c : Dev nD) (w : Fin cfg1.W) (hw : (cfg1.win w).isOut = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat W c).after w t) = (dat W c).blockOf w t)
    (t : Fin cfg1.N) (d) : (dat W c).before w t d = (dat W c).fetched w t d :=
  (dat W c).before_in_eq_fetched w hw (fun _ => rfl) hclip hkeep t d

theorem before_0 (c : Dev nD) (t : Fin cfg1.N) (d) : (dat W c).before 0 t d = blk W c 0 t :=
  before_input W c 0 rfl (fun _ _ _ => rfl) (fun _ => rfl) t d
theorem before_1 (c : Dev nD) (t : Fin cfg1.N) (d) : (dat W c).before 1 t d = blk W c 1 t :=
  before_input W c 1 rfl (fun _ _ _ => rfl) (fun _ => rfl) t d
theorem before_2 (c : Dev nD) (t : Fin cfg1.N) (d) : (dat W c).before 2 t d = blk W c 2 t :=
  before_input W c 2 rfl (fun _ _ _ => rfl) (fun _ => rfl) t d
theorem before_3 (c : Dev nD) (t : Fin cfg1.N) (d) : (dat W c).before 3 t d = blk W c 3 t :=
  before_input W c 3 rfl (fun _ _ _ => rfl) (fun _ => rfl) t d
theorem before_4 (c : Dev nD) (t : Fin cfg1.N) (d) : (dat W c).before 4 t d = blk W c 4 t :=
  before_input W c 4 rfl (fun _ _ _ => rfl) (fun _ => rfl) t d
theorem before_5 (c : Dev nD) (t : Fin cfg1.N) (d) : (dat W c).before 5 t d = blk W c 5 t :=
  before_input W c 5 rfl (fun _ _ _ => rfl) (fun _ => rfl) t d

/-- What the body is called with at point `t`, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d)))

/-- and what it returns. -/
def bodyPost (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t)
    ∗ owns (c : Thread nD τ) (st1_5 t) fullShare ((dat W c).after 5 t)
    ∗ owns (c : Thread nD τ) (st1_6 t) fullShare ((dat W c).after 6 t))

set_option maxHeartbeats 1000000 in
/-- The body at any point: the inputs' buffers hold their blocks, so the triple applies; the rest passes through. -/
theorem body_point (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5]
  rw [show (dat W c).Φ t.succ = (dat W c).Φ t.castSucc from rfl,
    show (dat W c).owesAt () t.succ = (dat W c).owesAt () t.castSucc from rfl,
    after_0, after_1, after_2, after_3, after_4, after_5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  unfold outAt
  iapply (body_triple c Set.univ (grid1.coords t) _ _ _ _ _ _ _ _ _ _ _ _ _ _
    (blk W c 0 t) (blk W c 1 t) (blk W c 2 t) (blk W c 3 t) (blk W c 4 t) (blk W c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) W c) (defs₀ (F := F)) Variants.none () Set.univ := fun t => by
  rw [bigSep_W1, bigSep_W1, body_row]
  exact triple_restated (body_point W c t) rfl .rfl fun _ => .rfl

end Data

end Cert.Combine

end
-- ==== Proof.Run.lean ====
/-
  The whole program: three stretches of host operations, the gate call, the combine call, one host operation. Every
  run ends, and in its final state each buffer that outlives the calls holds the last of the valuations below and every
  semaphore reads zero.
-/
module

public import proofs.«01_k».proof.Proof.Gate
public import proofs.«01_k».proof.Proof.Combine
public import proofs.«01_k».proof.Proof.Gen.KernelIdeal.Regions
public import Idealize.ShloMosaic.Lib.Pipeline.RegionArraysS

@[expose] public section

set_option maxRecDepth 16384

noncomputable section

namespace Cert.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- After the gate call, after the combine call, and at the end. -/
def W4 (c : Dev nD) : Valuation τ sig (Elt F) := Pipeline.afterRegion (Gate.dat (V3 m) c) (V3 m c)
def W5 (c : Dev nD) : Valuation τ sig (Elt F) := Pipeline.afterRegion (Combine.dat (W4 m) c) (W4 m c)
def W6 (c : Dev nD) : Valuation τ sig (Elt F) := StableHlo.after hostOps2 (W5 m c)

/-- The two calls' proof data. -/
def dats : (p : Fin 2) → (c : Dev nD) → Dat τ (Elt F) Unit ℕ (UR sig nD τ) ℕ (cfgs p) c
  | ⟨0, _⟩ => Gate.dat (V3 m)
  | ⟨1, _⟩ => Combine.dat (W4 m)

/-- One level everywhere on the cores, none elsewhere. -/
def lev (g : GSem nD τ sig) : Finset Unit := if g.1.2 = .tc then {()} else ∅

/-- What rides beside the buffers: the core owing nothing, and its generator register. -/
def rest (c : Dev nD) : sProp 𝕄 :=
  iprop((∃ Wd, owes (c : Thread nD τ) (0 : CellTallies nD τ sig Unit) Wd) ∗ (∃ r, prngReg c r) ∗ emp)

theorem cut (p : Fin 2) :
    Pipeline.LevelCut (pcfgs (F := F)) adm () lev (fun _ _ => (0 : ℕ)) p (fun _ : Dev nD => (0 : CellTallies nD τ sig Unit)) (fun _ => 0) where
  hι _ _ _ := by unfold lev; rw [if_pos rfl]; exact Finset.mem_singleton_self ()
  hιb _ _ _ := Nat.le_refl 0
  hD _ _ _ h := absurd h (Nat.lt_irrefl 0)

/-! ## The calls as segments -/

def reg0 : RegionSeg (pcfgs (F := F)) adm (dats m) () defs₀ Variants.none lev (fun _ _ => (0 : ℕ)) 0 :=
  RegionSeg.ofHeldIn (pcfgs (F := F)) adm (dats m) () defs₀ Variants.none lev (fun _ _ => (0 : ℕ)) 0 (fun _ => 0)
    (Pipeline.ucRefs τ sig) (fun c => iprop(∃ r, prngReg c r)) (fun c => iprop(∃ r, prngReg c r)) launch0.toP rfl
    (fun c => (Gate.body_obligation (V3 m) c).loose) (fun _ _ => rfl) (fun _ => rfl)
    (fun c w => (Gate.dat (V3 m) c).share_full (fun _ => rfl) w)
    (fun c => Gate.phi_in (V3 m) c) (fun c => Gate.phi_out (V3 m) c _)
    (fun _ => 0) (cut 0) (fun _ => iprop(emp)) (V3 m) (fun c w => rfl)

def reg1 : RegionSeg (pcfgs (F := F)) adm (dats m) () defs₀ Variants.none lev (fun _ _ => (0 : ℕ)) 1 :=
  RegionSeg.ofHeldIn (pcfgs (F := F)) adm (dats m) () defs₀ Variants.none lev (fun _ _ => (0 : ℕ)) 1 (fun _ => 0)
    (Pipeline.ucRefs τ sig) (fun c => iprop(∃ r, prngReg c r)) (fun c => iprop(∃ r, prngReg c r)) launch1.toP rfl
    (fun c => (Combine.body_obligation (W4 m) c).loose) (fun _ _ => rfl) (fun _ => rfl)
    (fun c w => (Combine.dat (W4 m) c).share_full (fun _ => rfl) w)
    (fun c => .rfl) (fun c => .rfl)
    (fun _ => 0) (cut 1) (fun _ => iprop(emp)) (W4 m) (fun c w => rfl)

theorem arrs0 : Pipeline.arrRefs (τ := τ) (pcfgs (F := F) 0).spec ⊆ Pipeline.ucRefs τ sig := by
  intro b hb
  obtain ⟨r, hr, rfl⟩ := Finset.mem_map.mp hb
  obtain ⟨w, -, rfl⟩ := Finset.mem_image.mp hr
  exact Pipeline.devRef_mem_ucRefs ((show ∀ w : Fin 4, (Pipeline.arrRef spec0 w).isScoped = false by decide) w)

theorem arrs1 : Pipeline.arrRefs (τ := τ) (pcfgs (F := F) 1).spec ⊆ Pipeline.ucRefs τ sig := by
  intro b hb
  obtain ⟨r, hr, rfl⟩ := Finset.mem_map.mp hb
  obtain ⟨w, -, rfl⟩ := Finset.mem_image.mp hr
  exact Pipeline.devRef_mem_ucRefs ((show ∀ w : Fin 7, (Pipeline.arrRef spec1 w).isScoped = false by decide) w)

/-! A segment is entered from the buffers at one valuation and left at the next, the rest riding along. -/

theorem pre0 (c : Dev nD) : iprop(StableHlo.held (c : Thread nD τ) (Pipeline.ucRefs τ sig) (V3 m c) ∗ rest c) ⊢ (reg0 m).pre c := by
  refine BI.Entails.trans ?_ (RegionSeg.ofHeldIn_pre arrs0 c)
  exact BI.Entails.refl _
theorem post0 (c : Dev nD) : (reg0 m).post c ⊢ iprop(StableHlo.held (c : Thread nD τ) (Pipeline.ucRefs τ sig) (W4 m c) ∗ rest c) :=
  RegionSeg.ofHeldIn_post arrs0 c
theorem pre1 (c : Dev nD) : iprop(StableHlo.held (c : Thread nD τ) (Pipeline.ucRefs τ sig) (W4 m c) ∗ rest c) ⊢ (reg1 m).pre c := by
  refine BI.Entails.trans ?_ (RegionSeg.ofHeldIn_pre arrs1 c)
  exact BI.Entails.refl _
theorem post1 (c : Dev nD) : (reg1 m).post c ⊢ iprop(StableHlo.held (c : Thread nD τ) (Pipeline.ucRefs τ sig) (W5 m c) ∗ rest c) :=
  RegionSeg.ofHeldIn_post arrs1 c

/-- The last stretch of host operations. -/
def lastSeg : HostSeg (Ix := Unit) (Name := ℕ) (U := UR sig nD τ) (Lvl := ℕ) (pcfgs (F := F)) defs₀ Variants.none lev (fun _ _ => 0) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 m) rest

/-- The program's items. -/
abbrev items : List (Seg (pcfgs (F := F)) adm (dats m) () defs₀ Variants.none lev (fun _ _ => (0 : ℕ))) :=
  [.host (seg0 m Variants.none lev (fun _ _ => 0) (fun _ => rest)), .host (seg1 m Variants.none lev (fun _ _ => 0) (fun _ => rest)),
    .host (seg2 m Variants.none lev (fun _ _ => 0) (fun _ => rest)), .region (reg0 m), .region (reg1 m), .host (lastSeg m)]

set_option backward.isDefEq.respectTransparency.types false in
/-- Every run ends with each unscoped buffer at the last valuation and every semaphore at zero. -/
theorem run (ρ : Dev nD → PrngReg) :
    θ_run defs (onTc (τ := τ) (main (F := F))) ⟨m, fun _ => 0, ρ⟩
      (fun r => (∀ (c : Dev nD) (b : Ref sig .tc), b.isScoped = false → r.2.mem ((c.tc : Thread nD τ).loc b) = W6 m c (Proc.devRef .tc b))
        ∧ r.2.sem = fun _ => 0) := by
  refine Pipeline.θ_run_regions_kit_dev_sems (pcfgs (F := F)) adm (dats m) () cellOf_inj emb₁ defs₀ Variants.none lev (fun _ _ => (0 : ℕ)) m ρ main
    (fun _ => items m)
    (fun c Q => by
      rewrite [main_chain c, Seg.run_eq_chain,
        show (items m).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [Seg.pipes_host, Seg.pipes_region, Seg.pipes_nil]; decide) 0
    (fun g hg => by unfold lev; rw [if_neg hg])
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W6 m c))
    (hch := fun c => ⟨.rfl, .rfl, .rfl, pre0 m c, (post0 m c).trans (pre1 m c), post1 m c, sep_mono .rfl ?_⟩)
    (hinit := ?_)
    (QY := fun c s => ∀ b ∈ Pipeline.ucRefs τ sig, s.mem ((c.tc : Thread nD τ).1, b) = W6 m c b)
    (hfin := fun c s' => ?_)
    (hQ := fun _ h hz => ⟨fun c b hb => h c (Proc.devRef .tc b) (Pipeline.devRef_mem_ucRefs hb), funext fun g => hz g (.inr (regions_no_unscoped g.2))⟩)
  · unfold rest
    iintro ⟨HO, -, -⟩
    iexact HO
  · refine Pipeline.initEach lev (fun _ _ => (0 : ℕ)) fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold rest
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (W6 m c) s') $$ [Hh HSI]
    · isplitl [Hh] <;> iassumption
    imodintro; iexact Hr

/-! ## The arguments are never written -/

/-- A buffer that no item writes ends as launched. -/
theorem keeps (c : Dev nD) (r : Ref sig .tc) (h0 : r ∉ hostOps0_W) (h1 : r ∉ hostOps0_1_W) (h2 : r ∉ hostOps0_2_W) (h6 : r ∉ hostOps2_W)
    (hg : ∀ w, Pipeline.arrRef spec0 w = r → (cfg0.win w).isOut = false) (hc : ∀ w, Pipeline.arrRef spec1 w = r → (cfg1.win w).isOut = false) :
    W6 m c (Proc.devRef .tc r) = m ((c : Thread nD τ).loc r) :=
  (StableHlo.after_of_writes_sub hostOps2 _ hostOps2_writes h6).trans <|
    (Pipeline.afterRegion_keeps (Combine.dat (W4 m) c) (W4 m c) launch1.win.arr_inj (fun _ => rfl) r hc).trans <|
    (Pipeline.afterRegion_keeps (Gate.dat (V3 m) c) (V3 m c) launch0.win.arr_inj (fun _ => rfl) r hg).trans <|
    (V3_of m c r h2).trans <| (V2_of m c r h1).trans <| (V1_of m c r h0).trans rfl

theorem run_args (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c main_arg0 rfl).trans (keeps m c main_arg0 (by decide) (by decide) (by decide) (by decide) (by decide) (by decide)),
     (h.1 c main_arg1 rfl).trans (keeps m c main_arg1 (by decide) (by decide) (by decide) (by decide) (by decide) (by decide)),
     (h.1 c main_arg2 rfl).trans (keeps m c main_arg2 (by decide) (by decide) (by decide) (by decide) (by decide) (by decide)),
     (h.1 c main_arg3 rfl).trans (keeps m c main_arg3 (by decide) (by decide) (by decide) (by decide) (by decide) (by decide)),
     (h.1 c main_arg4 rfl).trans (keeps m c main_arg4 (by decide) (by decide) (by decide) (by decide) (by decide) (by decide)),
     (h.1 c main_arg5 rfl).trans (keeps m c main_arg5 (by decide) (by decide) (by decide) (by decide) (by decide) (by decide))⟩, h.2⟩)
    (run m ρ)

end Cert.Run

end
-- ==== Proof.Spec.lean ====
/-
  The mathematics both programs compute, on the extended reals: the residual of a token against each expert's subspace,
  the softmax of the negated residuals, the choice of at most two experts, the renormalised weights, and the weighted
  sum of the experts' outputs; with the identities that join the two ways of computing the residual and the sum.
-/
module

public import Idealize.ShloMosaic.Lib.Pointwise
public import Idealize.ShloMosaic.Lib.Claim
public import Idealize.ShloMosaic.Lib.IdealHost

@[expose] public section

noncomputable section

namespace Cert.Spec

open Idealize.ShloMosaic

/-! ## Sums of reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ofBits_bot : Ideal.ofBits FTy.f32 4286578688#32 = ⊥ := by
  simp [Ideal.ofBits, Ideal.ieee]

theorem ofBits_two : Ideal.ofBits FTy.f32 1073741824#32 = ((2 : ℝ) : EReal) := by
  simp [Ideal.ofBits, Ideal.ieee]
  rw [← EReal.coe_mul]; norm_num

/-! ## The residual -/

/-- A token's coefficients on an expert's basis vectors. -/
def coefR (X : Fin 768 → ℝ) (O : Fin 8 → Fin 768 → Fin 8 → ℝ) (e j : Fin 8) : ℝ := ∑ d, O e d j * X d

/-- The squared distance of a token from an expert's subspace, -/
def sqR (X : Fin 768 → ℝ) (O : Fin 8 → Fin 768 → Fin 8 → ℝ) (e : Fin 8) : ℝ :=
  ∑ d, (X d - ∑ j, coefR X O e j * O e d j) * (X d - ∑ j, coefR X O e j * O e d j)

theorem sqR_nonneg (X : Fin 768 → ℝ) (O : Fin 8 → Fin 768 → Fin 8 → ℝ) (e : Fin 8) : 0 ≤ sqR X O e :=
  Finset.sum_nonneg fun d _ => mul_self_nonneg _

/-- and the same from the token's squared norm, its coefficients and the basis vectors' inner products. -/
theorem sqR_eq (X : Fin 768 → ℝ) (O : Fin 8 → Fin 768 → Fin 8 → ℝ) (e : Fin 8) :
    (∑ d, X d * X d) - 2 * (∑ j, coefR X O e j * coefR X O e j)
      + ∑ j, (∑ l, coefR X O e l * ∑ d, O e d l * O e d j) * coefR X O e j = sqR X O e := by
  have h1 : ∑ d, X d * (∑ j, coefR X O e j * O e d j) = ∑ j, coefR X O e j * coefR X O e j := by
    simp only [Finset.mul_sum]
    rw [Finset.sum_comm]
    refine Finset.sum_congr rfl fun j _ => ?_
    conv_rhs => rhs; unfold coefR
    rw [Finset.mul_sum]
    exact Finset.sum_congr rfl fun d _ => by ring
  have h2 : ∑ d, (∑ j, coefR X O e j * O e d j) * (∑ j, coefR X O e j * O e d j)
      = ∑ j, (∑ l, coefR X O e l * ∑ d, O e d l * O e d j) * coefR X O e j := by
    simp only [Finset.mul_sum, Finset.sum_mul]
    rw [Finset.sum_comm]
    refine Finset.sum_congr rfl fun j _ => ?_
    rw [Finset.sum_comm]
    refine Finset.sum_congr rfl fun l _ => ?_
    exact Finset.sum_congr rfl fun d _ => by ring
  unfold sqR
  rw [← h1, ← h2, Finset.mul_sum, ← Finset.sum_sub_distrib, ← Finset.sum_add_distrib]
  exact Finset.sum_congr rfl fun d _ => by ring

/-! ## The softmax -/

/-- The softmax of eight scores. -/
def softmax (s : Fin 8 → EReal) (e : Fin 8) : EReal :=
  Ideal.div (Ideal.exp (s e - Finset.fold max ⊥ s Finset.univ))
    (∑ e', Ideal.exp (s e' - Finset.fold max ⊥ s Finset.univ))

theorem fold_max_eq (p : Fin 8 → EReal) (i : Fin 8) (h : ∀ j, p j ≤ p i) : Finset.fold max ⊥ p Finset.univ = p i := by
  refine le_antisymm ((Finset.fold_max_le _).mpr ⟨bot_le, fun j _ => h j⟩) ?_
  exact (Finset.le_fold_max _).mpr (.inr ⟨i, Finset.mem_univ i, le_rfl⟩)

theorem exists_top (p : Fin 8 → EReal) : ∃ i, ∀ j, p j ≤ p i := Finite.exists_max p

/-- Of real scores it is positive reals. -/
theorem softmax_real (s : Fin 8 → ℝ) : ∃ q : Fin 8 → ℝ, (∀ e, 0 < q e) ∧ ∀ e, softmax (fun e => (s e : EReal)) e = q e := by
  obtain ⟨i, hi⟩ := exists_top (fun e => (s e : EReal))
  have hs : 0 < ∑ e', Real.exp (s e' - s i) := Finset.sum_pos (fun e _ => Real.exp_pos _) Finset.univ_nonempty
  refine ⟨fun e => Real.exp (s e - s i) * (1 / ∑ e', Real.exp (s e' - s i)), fun e => ?_, fun e => ?_⟩
  · have := Real.exp_pos (s e - s i); positivity
  · unfold softmax
    rw [fold_max_eq _ i hi]
    simp only [← EReal.coe_sub, Ideal.exp_coe]
    rw [← coe_sum, Ideal.div_coe hs.ne', ← EReal.coe_mul]

/-! ## The two largest -/

/-- The first place of the largest weight. -/
def IsFirst (p : Fin 8 → EReal) (i : Fin 8) : Prop := (∀ j, p j ≤ p i) ∧ ∀ j, j < i → p j < p i

/-- The first place of the largest weight away from `i`. -/
def IsSecond (p : Fin 8 → EReal) (i k : Fin 8) : Prop :=
  k ≠ i ∧ (∀ j, j ≠ i → p j ≤ p k) ∧ ∀ j, j < k → j ≠ i → p j < p k

theorem exists_least (P : Fin 8 → Prop) (h : ∃ i, P i) : ∃ i, P i ∧ ∀ j, j < i → ¬ P j := by
  classical
  obtain ⟨i, hi, hm⟩ := (Finset.univ.filter P).exists_minimal (by obtain ⟨i, hi⟩ := h; exact ⟨i, by simp [hi]⟩)
  refine ⟨i, by simpa using hi, fun j hj hP => ?_⟩
  exact absurd (hm (by simp [hP] : j ∈ Finset.univ.filter P) hj.le) (not_le.mpr hj)

theorem exists_first (p : Fin 8 → EReal) : ∃ i, IsFirst p i := by
  obtain ⟨i, hi, hl⟩ := exists_least (fun i => ∀ j, p j ≤ p i) (exists_top p)
  refine ⟨i, hi, fun j hj => lt_of_le_of_ne (hi j) fun h => hl j hj fun k => ?_⟩
  rw [h]; exact hi k

theorem exists_second (p : Fin 8 → EReal) (i : Fin 8) : ∃ k, IsSecond p i k := by
  have hne : ∃ k : Fin 8, k ≠ i := by by_cases h : i = 0 <;> [exact ⟨1, by simp [h]⟩; exact ⟨0, fun e => h e.symm⟩]
  have : ∃ k, k ≠ i ∧ ∀ j, j ≠ i → p j ≤ p k := by
    obtain ⟨k, hk, hm⟩ := (Finset.univ.filter (· ≠ i)).exists_max_image p (by obtain ⟨k, hk⟩ := hne; exact ⟨k, by simp [hk]⟩)
    exact ⟨k, by simpa using hk, fun j hj => hm j (by simp [hj])⟩
  obtain ⟨k, ⟨hk, hm⟩, hl⟩ := exists_least _ this
  refine ⟨k, hk, hm, fun j hj hji => lt_of_le_of_ne (hm j hji) fun h => hl j hj ⟨hji, fun n hn => ?_⟩⟩
  rw [h]; exact hm n hn

theorem first_unique (p : Fin 8 → EReal) {i i' : Fin 8} (h : IsFirst p i) (h' : IsFirst p i') : i = i' := by
  rcases lt_trichotomy i i' with hl | he | hl
  · exact absurd (h'.2 i hl) (not_lt.mpr (h.1 i'))
  · exact he
  · exact absurd (h.2 i' hl) (not_lt.mpr (h'.1 i))

/-! ## The gate -/

/-- The threshold a weight has to exceed. -/
abbrev thr : EReal := Ideal.ofBits FTy.f32 1040187392#32

open Classical in
/-- A weight kept if it exceeds the threshold (or, when no weight anywhere does, is the first largest) and is one of the
    two largest; zero otherwise. -/
def filt (p : Fin 8 → EReal) (any : Prop) (i k e : Fin 8) : EReal :=
  if (if any then thr < p e else e = i) ∧ (e = i ∨ e = k) then p e else 0

open Classical in
/-- The kept weights divided by their sum, or by one if there are none. -/
def route (p : Fin 8 → EReal) (any : Prop) (i k e : Fin 8) : EReal :=
  Ideal.div (filt p any i k e) (if ∑ e', filt p any i k e' = 0 then 1 else ∑ e', filt p any i k e')

/-- Of nonnegative reals they are nonnegative and finite. -/
theorem route_finite (q : Fin 8 → ℝ) (hq : ∀ e, 0 < q e) (any : Prop) (i k e : Fin 8) :
    0 ≤ route (fun e => (q e : EReal)) any i k e ∧ route (fun e => (q e : EReal)) any i k e ≠ ⊤ := by
  classical
  obtain ⟨f, hf, hr⟩ : ∃ f : Fin 8 → ℝ, (∀ e, 0 ≤ f e) ∧ ∀ e, filt (fun e => (q e : EReal)) any i k e = f e := by
    refine ⟨fun e => if (if any then thr < q e else e = i) ∧ (e = i ∨ e = k) then q e else 0, fun e => ?_, fun e => ?_⟩
    · dsimp only; split_ifs <;> first | exact (hq e).le | exact le_rfl
    · unfold filt
      by_cases h : (if any then thr < q e else e = i) ∧ (e = i ∨ e = k)
      · rw [if_pos h]; dsimp only; rw [if_pos h]
      · rw [if_neg h]; dsimp only; rw [if_neg h]; rfl
  have key : route (fun e => (q e : EReal)) any i k e
      = ((f e * (1 / if ∑ e', f e' = 0 then 1 else ∑ e', f e') : ℝ) : EReal) := by
    unfold route
    simp only [hr]
    rw [← coe_sum]
    by_cases h : ∑ e', f e' = 0
    · rw [if_pos (by rw [h]; rfl), if_pos h, ← EReal.coe_one, Ideal.div_coe one_ne_zero, ← EReal.coe_mul]
    · rw [if_neg (fun h' => h (by exact_mod_cast h')), if_neg h, Ideal.div_coe h, ← EReal.coe_mul]
  rw [key]
  refine ⟨?_, EReal.coe_ne_top _⟩
  have hs : 0 ≤ ∑ e', f e' := Finset.sum_nonneg fun e _ => hf e
  rw [EReal.coe_nonneg]
  refine mul_nonneg (hf e) (one_div_nonneg.mpr ?_)
  split_ifs
  · exact zero_le_one
  · exact hs

/-! ## The weighted sum -/

/-- Weighting each expert's output with its bias is weighting the outputs and the biases apart. -/
theorem combine (a : EReal) (n : Fin 8 → EReal) (y b : Fin 8 → EReal) (h0 : ∀ e, 0 ≤ n e) (ht : ∀ e, n e ≠ ⊤) :
    a + ∑ e, (y e + b e) * n e = a + ∑ e, n e * b e + ∑ e, n e * y e := by
  have h : ∀ e, (y e + b e) * n e = n e * b e + n e * y e := fun e => by
    rw [EReal.right_distrib_of_nonneg_of_ne_top (h0 e) (ht e), mul_comm (y e), mul_comm (b e), add_comm]
  simp only [h, Finset.sum_add_distrib, add_assoc]

/-! ## The whole function -/

section Whole

variable (h : Fin 8192 → Fin 768 → EReal) (w0 : Fin 768 → Fin 768 → EReal) (b0 : Fin 768 → EReal)
  (wd : Fin 8 → Fin 768 → Fin 768 → EReal) (bd : Fin 8 → Fin 768 → EReal) (o : Fin 8 → Fin 768 → Fin 8 → EReal)

/-- The distance of token `t` from expert `e`'s subspace. -/
def resid (t : Fin 8192) (e : Fin 8) : EReal :=
  Ideal.sqrt (∑ d, (h t d - ∑ j, (∑ q, o e q j * h t q) * o e d j) * (h t d - ∑ j, (∑ q, o e q j * h t q) * o e d j))

/-- The routing weights, -/
def weight (t : Fin 8192) (e : Fin 8) : EReal := softmax (fun e => - resid h o t e) e

/-- whether one of them exceeds the threshold, -/
def any : Prop := ∃ t e, thr < weight h o t e

/-- a token's two largest, -/
def fst (t : Fin 8192) : Fin 8 := (exists_first (weight h o t)).choose
def snd (t : Fin 8192) : Fin 8 := (exists_second (weight h o t) (fst h o t)).choose

theorem fst_spec (t : Fin 8192) : IsFirst (weight h o t) (fst h o t) := (exists_first (weight h o t)).choose_spec
theorem snd_spec (t : Fin 8192) : IsSecond (weight h o t) (fst h o t) (snd h o t) :=
  (exists_second (weight h o t) (fst h o t)).choose_spec

/-- and the renormalised weights. -/
def gate (t : Fin 8192) (e : Fin 8) : EReal := route (weight h o t) (any h o) (fst h o t) (snd h o t) e

/-- The output: the base layer and the experts' differences, weighted. -/
def out (t : Fin 8192) (c : Fin 768) : EReal :=
  (∑ d, h t d * w0 c d + b0 c) + ∑ e, (∑ d, wd e c d * h t d + bd e c) * gate h o t e

end Whole

/-! ## Of real tokens and real bases -/

section Real

variable (X : Fin 8192 → Fin 768 → ℝ) (O : Fin 8 → Fin 768 → Fin 8 → ℝ)

theorem resid_real (t : Fin 8192) (e : Fin 8) :
    resid (fun t d => (X t d : EReal)) (fun e d j => (O e d j : EReal)) t e = (Real.sqrt (sqR (X t) O e) : EReal) := by
  unfold resid
  simp only [← EReal.coe_mul, ← coe_sum, ← EReal.coe_sub]
  rw [Ideal.sqrt_coe]
  exact if_neg (not_lt.mpr (sqR_nonneg (X t) O e))

theorem weight_real (t : Fin 8192) : ∃ q : Fin 8 → ℝ, (∀ e, 0 < q e) ∧
    weight (fun t d => (X t d : EReal)) (fun e d j => (O e d j : EReal)) t = fun e => (q e : EReal) := by
  obtain ⟨q, hq, hw⟩ := softmax_real (fun e => - Real.sqrt (sqR (X t) O e))
  refine ⟨q, hq, funext fun e => ?_⟩
  rw [← hw e]
  unfold weight
  simp only [resid_real, EReal.coe_neg]

theorem gate_finite (t : Fin 8192) (e : Fin 8) :
    0 ≤ gate (fun t d => (X t d : EReal)) (fun e d j => (O e d j : EReal)) t e
      ∧ gate (fun t d => (X t d : EReal)) (fun e d j => (O e d j : EReal)) t e ≠ ⊤ := by
  obtain ⟨q, hq, hw⟩ := weight_real X O t
  unfold gate
  rw [hw]
  exact route_finite q hq _ _ _ _

end Real

end Cert.Spec

end
-- ==== Proof.GateVal.lean ====
/-
  The gate call's values on the extended reals: of real tokens and real bases the residual weights are the softmax of
  the negated residuals, the flag tells whether one exceeds the threshold, and the stored weights are the renormalised
  ones.
-/
module

public import proofs.«01_k».proof.Proof.Gate
public import proofs.«01_k».proof.Proof.Spec
public import Idealize.ShloMosaic.Lib.Pointwise
public import Idealize.ShloMosaic.Lib.Claim

@[expose] public section

set_option maxRecDepth 16384

noncomputable section

namespace Cert.GateVal

open Cert.KernelIdeal Cert.KernelIdeal.Gen Cert.Gate Cert.Spec
open Idealize.ShloMosaic Idealize.ShloMosaic.TcCoe

/-! ## Words -/

/-- A bit widened and converted is one or zero. -/
theorem bit_val (b : Bool) : (FloatOps.sitofp (F := Ideal) FTy.f32 (BitVec.setWidth 32 (BitVec.ofBool b))) = (if b then (1 : EReal) else 0) := by
  cases b
  · show (((BitVec.setWidth 32 (BitVec.ofBool false)).toInt : ℝ) : EReal) = 0
    norm_num
  · show (((BitVec.setWidth 32 (BitVec.ofBool true)).toInt : ℝ) : EReal) = 1
    rw [show (BitVec.setWidth 32 (BitVec.ofBool true)).toInt = 1 by decide]
    norm_num

/-- The least of the marked places' numbers is the first marked place. -/
theorem min_word : ∀ (b : Fin 8 → Bool) (i : Fin 8), b i = true → (∀ j, j < i → b j = false) →
    Finset.fold IntOp.minsi (2147483647#32) (fun x : Fin 8 => if b x = true then BitVec.ofNat 32 x.val else 8#32) Finset.univ
      = BitVec.ofNat 32 i.val := by
  decide +kernel

theorem eq_word : ∀ e i : Fin 8, IntOp.cmpi CmpIPredicate.eq (BitVec.ofNat 32 e.val) (BitVec.ofNat 32 i.val) = BitVec.ofBool (decide (e = i)) := by
  decide +kernel

theorem min_prop (P : Fin 8 → Prop) [DecidablePred P] (i : Fin 8) (h : P i) (hl : ∀ j, j < i → ¬ P j) :
    Finset.fold IntOp.minsi (2147483647#32) (fun x : Fin 8 => if P x then BitVec.ofNat 32 x.val else 8#32) Finset.univ
      = BitVec.ofNat 32 i.val := by
  have := min_word (fun x => decide (P x)) i (by simpa using h) (fun j hj => by simpa using hl j hj)
  simpa using this

/-! ## Sums over an expert's columns -/

/-- Column `j` of expert `e` among the 64. -/
def col (e j : Fin 8) : Fin 64 := ⟨8 * e.val + j.val, by omega⟩

theorem sum_cols {M : Type*} [AddCommMonoid M] (f : Fin 64 → M) (e : Fin 8) :
    ∑ k : Fin 64, (if k.val / 8 = e.val then f k else 0) = ∑ j, f (col e j) := by
  have hc : ∀ a j : Fin 8, (finProdFinEquiv (m := 8) (n := 8) (a, j)) = col a j := fun a j =>
    Fin.ext (show j.val + 8 * a.val = 8 * a.val + j.val by omega)
  refine ((finProdFinEquiv (m := 8) (n := 8)).sum_comp (fun k : Fin 64 => if k.val / 8 = e.val then f k else 0)).symm.trans ?_
  rw [Fintype.sum_prod_type, Finset.sum_eq_single e]
  · refine Finset.sum_congr rfl fun j _ => ?_
    rw [hc, if_pos (show (col e j).val / 8 = e.val by show (8 * e.val + j.val) / 8 = e.val; omega)]
  · intro a _ ha
    refine Finset.sum_eq_zero fun j _ => ?_
    rw [hc, if_neg fun h => ha (Fin.ext (by rw [← h]; show a.val = (8 * a.val + j.val) / 8; omega))]
  · exact fun h => absurd (Finset.mem_univ e) h

/-- Which columns are an expert's. -/
theorem seg_val (k : Fin 64) (e : Fin 8) :
    (k0_pay13 k0_pay12 : FVec Ideal S64x8 .bf16) (ix2 k e) = (if k.val / 8 = e.val then (1 : EReal) else 0) := by
  unfold k0_pay13 k0_pay12
  pointwise
  refine (congrArg (fun w => FloatOps.sitofp (F := Ideal) FTy.f32 (BitVec.setWidth 32 w))
    (?_ : _ = BitVec.ofBool (decide (k.val / 8 = e.val)))).trans ?_
  · revert k e; decide +kernel
  · rw [bit_val]; simp

/-! ## The residual weights -/

section Weights

variable (x : Vec Ideal S1024x768 .f32) (v : Vec Ideal S768x64 .bf16) (g : Vec Ideal S3x64x64 .bf16)

theorem pay5_val (r : Fin 1024) (d : Fin 768) : k0_pay5 (View.ld x rTok) (ix2 r d) = x (ix2 r d) := by
  unfold k0_pay5; pointwise
theorem pay6_val (r : Fin 1024) (d : Fin 768) : k0_pay6 (View.ld x rTok) (ix2 r d) = x (ix2 r d) := by
  unfold k0_pay6 k0_pay5; pointwise
theorem pay7_val (d : Fin 768) (k : Fin 64) : k0_pay7 (View.ld v rV) (ix2 d k) = v (ix2 d k) := by
  unfold k0_pay7; pointwise
theorem pay8_val (r : Fin 1024) (k : Fin 64) :
    k0_pay8 (View.ld x rTok) (View.ld v rV) (ix2 r k) = (∑ d : Fin 768, x (ix2 r d) * v (ix2 d k) : EReal) := by
  unfold k0_pay8 k0_pay6 k0_pay5 k0_pay7; pointwise
theorem pay9_val (r : Fin 1024) (k : Fin 64) :
    k0_pay9 (View.ld x rTok) (View.ld v rV) (ix2 r k) = k0_pay8 (View.ld x rTok) (View.ld v rV) (ix2 r k) := by
  unfold k0_pay9; pointwise
theorem pay10_val (r : Fin 1024) (k : Fin 64) :
    k0_pay10 (View.ld x rTok) (View.ld v rV) (ix2 r k) = k0_pay8 (View.ld x rTok) (View.ld v rV) (ix2 r k) := by
  unfold k0_pay10 k0_pay9; pointwise

variable (X : Fin 1024 → Fin 768 → ℝ) (Vr : Fin 768 → Fin 64 → ℝ)
  (hx : ∀ r d, x (ix2 r d) = (X r d : EReal)) (hv : ∀ d k, v (ix2 d k) = (Vr d k : EReal))

/-- A row's coefficient on a column. -/
def cf (r : Fin 1024) (k : Fin 64) : ℝ := ∑ d, X r d * Vr d k

include hx hv in
theorem coef_val (r : Fin 1024) (k : Fin 64) :
    k0_pay8 (View.ld x rTok) (View.ld v rV) (ix2 r k) = ((cf X Vr r k : ℝ) : EReal) := by
  rw [pay8_val]
  simp only [hx, hv, ← EReal.coe_mul, ← Spec.coe_sum]
  rfl

include hx hv in
theorem part1_val (r : Fin 1024) (e : Fin 8) :
    part1 x v (ix2 r e) = ((∑ j, cf X Vr r (col e j) * cf X Vr r (col e j) : ℝ) : EReal) := by
  have hc := coef_val x v X Vr hx hv
  unfold part1 k0_pay14 k0_pay10 k0_pay11
  pointwise
  simp only [pay9_val, pay5_val, pay6_val, pay7_val, hc, hx, hv, seg_val, ← EReal.coe_sub, ← EReal.coe_mul, sub_self, sub_zero,
    zero_mul, Finset.sum_const_zero, EReal.coe_zero, add_zero, mul_ite, mul_one, mul_zero, ite_self, sum_cols, Spec.coe_sum]

variable (G : Fin 64 → Fin 64 → ℝ) (hg0 : ∀ s k, g (ix3 0 s k) = (G s k : EReal)) (hg1 : ∀ s k, g (ix3 1 s k) = (0 : EReal))
  (hg2 : ∀ s k, g (ix3 2 s k) = (0 : EReal))

include hx hv hg0 hg1 hg2 in
theorem part2_val (r : Fin 1024) (e : Fin 8) :
    part2 x v g (ix2 r e) = ((∑ j, (∑ s, cf X Vr r s * G s (col e j)) * cf X Vr r (col e j) : ℝ) : EReal) := by
  have hc := coef_val x v X Vr hx hv
  unfold part2 k0_pay15 k0_pay10 k0_pay9
  pointwise
  simp only [hc, hg0, hg1, hg2, seg_val, mul_zero, Finset.sum_const_zero, add_zero, ← EReal.coe_mul, ← Spec.coe_sum,
    ← EReal.coe_sub, sub_self, sub_zero, zero_mul, EReal.coe_zero]
  simp only [mul_ite, mul_one, mul_zero, ite_self, Finset.sum_const_zero, add_zero, sum_cols, Spec.coe_sum]

include hx in
theorem part3_val (r : Fin 1024) : part3 x (ix1 r) = ((∑ d, X r d * X r d : ℝ) : EReal) := by
  unfold part3 k0_pay16 k0_pay5
  pointwise
  simp only [hx, ← EReal.coe_mul, ← Spec.coe_sum]

variable (O : Fin 8 → Fin 768 → Fin 8 → ℝ) (hO : ∀ e d j, Vr d (col e j) = O e d j)
  (hG : ∀ s k : Fin 64, G s k = if s.val / 8 = k.val / 8 then ∑ d, Vr d s * Vr d k else 0)

include hx hv hg0 hg1 hg2 hO hG in
/-- The squared residual the kernel forms is the squared distance. -/
theorem sq_val (r : Fin 1024) (e : Fin 8) :
    part3 x (ix1 r) - Ideal.ofBits FTy.f32 1073741824#32 * part1 x v (ix2 r e) + part2 x v g (ix2 r e)
      = ((sqR (X r) O e : ℝ) : EReal) := by
  have hcf : ∀ j, cf X Vr r (col e j) = coefR (X r) O e j := fun j => by
    unfold cf coefR
    exact Finset.sum_congr rfl fun d _ => by rw [hO, mul_comm]
  have hq : ∀ j, ∑ s, cf X Vr r s * G s (col e j) = ∑ l, coefR (X r) O e l * ∑ d, O e d l * O e d j := fun j => by
    have hd : (col e j).val / 8 = e.val := by show (8 * e.val + j.val) / 8 = e.val; omega
    simp only [hG, hd, mul_ite, mul_zero, sum_cols, hcf, hO]
  rw [part3_val x X hx, part1_val x v X Vr hx hv, part2_val x v g X Vr hx hv G hg0 hg1 hg2, ofBits_two, ← EReal.coe_mul,
    ← EReal.coe_sub, ← EReal.coe_add]
  simp only [hcf, hq]
  rw [sqR_eq]

include hx hv hg0 hg1 hg2 hO hG in
/-- The residual weights of a row. -/
theorem rw_val (r : Fin 1024) (e : Fin 8) :
    rwVal x v g (ix2 r e) = softmax (fun e => - ((Real.sqrt (sqR (X r) O e) : ℝ) : EReal)) e := by
  have hs := sq_val x v g X Vr hx hv G hg0 hg1 hg2 O hO hG
  have hm : ∀ e, Ideal.sqrt (max ((sqR (X r) O e : ℝ) : EReal) 0) = ((Real.sqrt (sqR (X r) O e) : ℝ) : EReal) := fun e => by
    rw [max_eq_left (by exact_mod_cast sqR_nonneg (X r) O e), Ideal.sqrt_coe, if_neg (not_lt.mpr (sqR_nonneg (X r) O e))]
  unfold rwVal k0_pay2 k0_pay1
  pointwise
  simp only [hs, hm, ofBits_bot, zero_sub]
  rfl

end Weights

/-! ## The flag -/

/-- A word above zero. -/
def Pos (w : BitVec 32) : Prop := 0 < w.toInt

theorem pos_bit (b : Bool) : Pos (BitVec.setWidth 32 (BitVec.ofBool b)) ↔ b = true := by
  cases b <;> simp [Pos]

theorem pos_max (a b : BitVec 32) : Pos (IntOp.maxsi a b) ↔ Pos a ∨ Pos b := by
  unfold Pos IntOp.maxsi
  split_ifs with h
  · have := (BitVec.slt_iff_toInt_lt).mp h; omega
  · have := mt BitVec.slt_iff_toInt_lt.mpr h; omega

theorem pos_fold {ι : Type*} (s : Finset ι) (f : ι → BitVec 32) :
    Pos (Finset.fold IntOp.maxsi 2147483648#32 f s) ↔ ∃ i ∈ s, Pos (f i) := by
  classical
  induction s using Finset.induction_on with
  | empty => simp [Pos]
  | insert a s ha ih => rw [Finset.fold_insert ha, pos_max, ih]; simp

theorem any_val (x : Vec Ideal S1024x768 .f32) (v : Vec Ideal S768x64 .bf16) (g : Vec Ideal S3x64x64 .bf16) :
    Pos (anyVal x v g) ↔ ∃ (r : Fin 1024) (e : Fin 8), thr < (rwVal x v g (ix2 r e) : EReal) := by
  unfold anyVal rwVal k0_pay3 k0_pay2 k0_pay1
  pointwise
  rw [pos_fold]
  simp only [pos_bit, decide_eq_true_eq, Finset.mem_univ, true_and, Prod.exists]

/-! ## The stored weights -/

theorem sgt_pos (a : BitVec 32) : Scalar.cmpi CmpIPredicate.sgt a 0#32 = 1#1 ↔ Pos a := by
  unfold Pos Scalar.cmpi IntOp.cmpi
  have hbit : ∀ b : Bool, BitVec.ofBool b = 1#1 ↔ b = true := by decide
  simp [hbit, BitVec.slt_iff_toInt_lt]

section Stored

variable (w : Vec Ideal S1024x8 .f32) (a : BitVec 32) (r : Fin 1024) (i k : Fin 8)
  (hi : IsFirst (fun e => (w (ix2 r e) : EReal)) i) (hk : IsSecond (fun e => (w (ix2 r e) : EReal)) i k)
  (hb : ∀ e, (w (ix2 r e) : EReal) ≠ ⊥)

include hi hk hb in
theorem filt_val (e : Fin 8) : k0_pay17 w a (ix2 r e) = filt (fun e => (w (ix2 r e) : EReal)) (Pos a) i k e := by
  have h1 : Finset.fold max ⊥ (fun e => (w (ix2 r e) : EReal)) Finset.univ = w (ix2 r i) := fold_max_eq _ i hi.1
  have m1 : Finset.fold IntOp.minsi (2147483647#32)
      (fun x : Fin 8 => if (w (ix2 r x) : EReal) = w (ix2 r i) then BitVec.ofNat 32 x.val else 8#32) Finset.univ = BitVec.ofNat 32 i.val :=
    min_prop (fun x : Fin 8 => (w (ix2 r x) : EReal) = w (ix2 r i)) i rfl (fun j hj => (hi.2 j hj).ne)
  have hcur : ∀ x : Fin 8, Scalar.select (BitVec.ofBool (decide (x = i))) (⊥ : EReal) (w (ix2 r x)) = if x = i then ⊥ else (w (ix2 r x) : EReal) := fun x => by
    by_cases h : x = i <;> simp [h, Scalar.select]
  have h2 : Finset.fold max ⊥ (fun x => if x = i then ⊥ else (w (ix2 r x) : EReal)) Finset.univ = w (ix2 r k) := by
    rw [fold_max_eq _ k fun j => ?_, if_neg hk.1]
    rw [if_neg hk.1]
    split_ifs with h
    · exact bot_le
    · exact hk.2.1 j h
  have m2 : Finset.fold IntOp.minsi (2147483647#32)
      (fun x : Fin 8 => if (if x = i then ⊥ else (w (ix2 r x) : EReal)) = w (ix2 r k) then BitVec.ofNat 32 x.val else 8#32) Finset.univ = BitVec.ofNat 32 k.val := by
    refine min_prop (fun x : Fin 8 => (if x = i then ⊥ else (w (ix2 r x) : EReal)) = w (ix2 r k)) k (if_neg hk.1) fun j hj => ?_
    split_ifs with h
    · exact (hb k).symm
    · exact (hk.2.2 j hj h).ne
  unfold k0_pay17
  pointwise
  simp only [ofBits_bot, h1, m1, eq_word, hcur, h2, m2, bit_val, decide_eq_true_eq]
  unfold filt
  have hki : ¬ k = i := hk.1
  by_cases hp : Pos a
  · rw [(sgt_pos a).mpr hp]
    simp only [Scalar.select, if_true, hp]
    by_cases ht : thr < (w (ix2 r e) : EReal) <;> by_cases he : e = i <;> by_cases he' : e = k <;> simp_all
  · have h0 : Scalar.cmpi CmpIPredicate.sgt a 0#32 = 0#1 := by
      rcases BitVec.eq_zero_or_eq_one (Scalar.cmpi CmpIPredicate.sgt a 0#32) with h | h
      · exact h
      · exact absurd ((sgt_pos a).mp h) hp
    rw [h0]
    simp only [Scalar.select, hp, if_false]
    by_cases he : e = i <;> by_cases he' : e = k <;> simp_all

include hi hk hb in
/-- The weights a storing point stores. -/
theorem nw_val (e : Fin 8) : nwVal w a (ix2 r e) = route (fun e => (w (ix2 r e) : EReal)) (Pos a) i k e := by
  have h := filt_val w a r i k hi hk hb
  unfold nwVal k0_pay4 k0_pay18
  pointwise
  simp only [h]
  unfold route
  congr

end Stored

end Cert.GateVal

end
-- ==== Proof.KerVal.lean ====
/-
  The kernel's result on the extended reals: of real tokens and real bases it is the specification's output.
-/
module

public import proofs.«01_k».proof.Proof.Run
public import proofs.«01_k».proof.Proof.GateVal
public import Idealize.ShloMosaic.Lib.StableHlo.ReadAt
public import Idealize.ShloMosaic.Lib.Pipeline.ValueKit.Geometry

@[expose] public section

set_option maxRecDepth 16384

noncomputable section

namespace Cert.KerVal

open Cert.KernelIdeal Cert.KernelIdeal.Gen Cert.Spec Cert.GateVal Cert.Run
open Idealize.ShloMosaic Idealize.ShloMosaic.TcCoe Idealize.ShloMosaic.StableHlo

/-! ## The host operations before the calls -/

section Host

variable (U : Valuation τ sig (Elt Ideal))

theorem v0_at (t : Fin 8192) (d : Fin 768) : after hostOps0_2 (after hostOps0_1 (after hostOps0 U)) (Proc.devRef .tc main_v0) (ix2 t d)
    = U (Proc.devRef .tc main_arg0) (ix3 ⟨t.val / 2048, by omega⟩ ⟨t.val % 2048, by omega⟩ d) := by
  after_reads_at
theorem v3_at (d : Fin 768) (k : Fin 64) : after hostOps0_2 (after hostOps0_1 (after hostOps0 U)) (Proc.devRef .tc main_v3) (ix2 d k)
    = U (Proc.devRef .tc main_arg5) (ix3 ⟨k.val / 8, by omega⟩ d ⟨k.val % 8, by omega⟩) := by
  after_reads_at
theorem v26_at (o d : Fin 768) : after hostOps0_2 (after hostOps0_1 (after hostOps0 U)) (Proc.devRef .tc main_v26) (ix2 o d)
    = U (Proc.devRef .tc main_arg1) (ix2 o d) := by
  after_reads_at
theorem v27_at (e : Fin 8) (o d : Fin 768) : after hostOps0_2 (after hostOps0_1 (after hostOps0 U)) (Proc.devRef .tc main_v27) (ix3 e o d)
    = U (Proc.devRef .tc main_arg3) (ix3 e o d) := by
  after_reads_at
theorem v28_at (o : Fin 768) : after hostOps0_2 (after hostOps0_1 (after hostOps0 U)) (Proc.devRef .tc main_v28) (ix2 0 o)
    = U (Proc.devRef .tc main_arg2) (ix1 o) := by
  after_reads_at
theorem arg4_at : after hostOps0_2 (after hostOps0_1 (after hostOps0 U)) (Proc.devRef .tc main_arg4)
    = U (Proc.devRef .tc main_arg4) := by
  after_reads_simp

theorem v5_at (O : Fin 8 → Fin 768 → Fin 8 → ℝ) (hO : ∀ e d j, U (Proc.devRef .tc main_arg5) (ix3 e d j) = (O e d j : EReal)) (s k : Fin 64) :
    after hostOps0_1 (after hostOps0 U) (Proc.devRef .tc main_v5) (ix2 s k)
      = ((∑ d, O ⟨s.val / 8, by omega⟩ d ⟨s.val % 8, by omega⟩ * O ⟨k.val / 8, by omega⟩ d ⟨k.val % 8, by omega⟩ : ℝ) : EReal) := by
  after_reads_at
  simp only [hO, ← EReal.coe_mul, ← Spec.coe_sum]

/-- Each column's expert. -/
theorem v8_at (k : Fin 64) : after hostOps0_1 (after hostOps0 U) (Proc.devRef .tc main_v8) (ix2 k 0) = BitVec.ofNat 32 (k.val / 8) := by
  after_reads_at
  revert k; decide +kernel

theorem same_word : ∀ s k : Fin 64, IntOp.cmpi CmpIPredicate.eq (BitVec.ofNat 32 (s.val / 8)) (BitVec.ofNat 32 (k.val / 8))
    = BitVec.ofBool (decide (s.val / 8 = k.val / 8)) := by
  decide +kernel

theorem ubit_val (b : Bool) : (FloatOps.uitofp (F := Ideal) FTy.f32 (BitVec.ofBool b)) = (if b then (1 : EReal) else 0) := by
  cases b
  · show (((BitVec.ofBool false).toNat : ℝ) : EReal) = 0
    simp
  · show (((BitVec.ofBool true).toNat : ℝ) : EReal) = 1
    simp

variable (s k : Fin 64) (g : ℝ) (h5 : U (Proc.devRef .tc main_v5) (ix2 s k) = (g : EReal))
  (h8 : ∀ k : Fin 64, U (Proc.devRef .tc main_v8) (ix2 k 0) = BitVec.ofNat 32 (k.val / 8))

theorem mask_val (g : ℝ) : (g : EReal) * (if decide (s.val / 8 = k.val / 8) = true then (1 : EReal) else 0)
    = ((if s.val / 8 = k.val / 8 then g else 0 : ℝ) : EReal) := by
  by_cases h : s.val / 8 = k.val / 8 <;> simp [h]

include h5 h8 in
/-- The three parts of the masked inner products: the products themselves and two zeros. -/
theorem v22_at : after (hostOps0_2.take 16) U (Proc.devRef .tc main_v22) (ix3 0 s k) = ((if s.val / 8 = k.val / 8 then g else 0 : ℝ) : EReal) := by
  after_reads_at
  rw [h5, h8, h8, same_word, ubit_val, mask_val]
include h5 h8 in
theorem v23_at : after (hostOps0_2.take 16) U (Proc.devRef .tc main_v23) (ix3 0 s k) = (0 : EReal) := by
  after_reads_at
  rw [h5, h8, h8, same_word, ubit_val, mask_val, ← EReal.coe_sub, sub_self, EReal.coe_zero]
include h5 h8 in
theorem v24_at : after (hostOps0_2.take 16) U (Proc.devRef .tc main_v24) (ix3 0 s k) = (0 : EReal) := by
  after_reads_at
  rw [h5, h8, h8, same_word, ubit_val, mask_val, ← EReal.coe_sub, sub_self, ← EReal.coe_sub, sub_self, EReal.coe_zero]

theorem v25_0 : after (hostOps0_2.drop 16) U (Proc.devRef .tc main_v25) (ix3 0 s k) = U (Proc.devRef .tc main_v22) (ix3 0 s k) := by
  after_reads_at
theorem v25_1 : after (hostOps0_2.drop 16) U (Proc.devRef .tc main_v25) (ix3 1 s k) = U (Proc.devRef .tc main_v23) (ix3 0 s k) := by
  after_reads_at
theorem v25_2 : after (hostOps0_2.drop 16) U (Proc.devRef .tc main_v25) (ix3 2 s k) = U (Proc.devRef .tc main_v24) (ix3 0 s k) := by
  after_reads_at

theorem split2 : after hostOps0_2 U = after (hostOps0_2.drop 16) (after (hostOps0_2.take 16) U) := rfl

theorem v31_at (b : Fin 4) (s : Fin 2048) (o : Fin 768) : after hostOps2 U (Proc.devRef .tc main_v31) (ix3 b s o)
    = U (Proc.devRef .tc main_v30) (ix2 ⟨b.val * 2048 + s.val, by omega⟩ o) := by
  after_reads_at

end Host

/-! ## The combine call's value -/

theorem outVal_at (x : Vec Ideal S1024x768 .f32) (nw : Vec Ideal S1024x8 .f32) (w0 : Vec Ideal S768x768 .bf16) (b0 : Vec Ideal S1x768 .f32)
    (wd : Vec Ideal S8x768x768 .bf16) (bd : Vec Ideal S8x768 .f32) (r : Fin 1024) (o : Fin 768) :
    Combine.outVal x nw w0 b0 wd bd (ix2 r o)
      = (∑ d, x (ix2 r d) * w0 (ix2 o d) + b0 (ix2 0 o) + ∑ e, nw (ix2 r e) * bd (ix2 e o)
        + ∑ e, nw (ix2 r e) * ∑ d, x (ix2 r d) * wd (ix3 e o d) : EReal) := by
  unfold Combine.outVal k1_pay5 k1_pay4 k1_pay3 k1_pay2 k1_pay1
  pointwise
  simp only [Fin.sum_univ_eight (M := EReal) (fun e => nw (ix2 r e) * ∑ d, x (ix2 r d) * wd (ix3 e o d)), add_assoc]

/-! ## The blocks -/

section Blocks

variable (W : (c : Dev nD) → Valuation τ sig (Elt Ideal)) (c : Dev nD)

theorem ci0 : ∀ t : Fin grid1.N, win1_0.index t = ![t.val, 0] := by decide +kernel
theorem ci1 : ∀ t : Fin grid1.N, win1_1.index t = ![t.val, 0] := by decide +kernel
theorem ci2 : ∀ t : Fin grid1.N, win1_2.index t = ![0, 0] := by decide +kernel
theorem ci3 : ∀ t : Fin grid1.N, win1_3.index t = ![0, 0] := by decide +kernel
theorem ci4 : ∀ t : Fin grid1.N, win1_4.index t = ![0, 0, 0] := by decide +kernel
theorem ci5 : ∀ t : Fin grid1.N, win1_5.index t = ![0, 0] := by decide +kernel
theorem ci6 : ∀ t : Fin grid1.N, win1_6.index t = ![t.val, 0] := by decide +kernel
theorem gi0 : ∀ t : Fin grid0.N, win0_0.index t = ![min t.val 7, 0] := by decide +kernel
theorem gi1 : ∀ t : Fin grid0.N, win0_1.index t = ![0, 0] := by decide +kernel
theorem gi2 : ∀ t : Fin grid0.N, win0_2.index t = ![0, 0, 0] := by decide +kernel
theorem gi3 : ∀ t : Fin grid0.N, win0_3.index t = ![t.val - 8, 0] := by decide +kernel

/-- Row `r` of block `n`. -/
def row (n : ℕ) (hn : n < 8) (r : Fin 1024) : Fin 8192 := ⟨1024 * n + r.val, by omega⟩

theorem cb0 (t : Fin cfg1.N) (ht : t.val < 8) (r : Fin 1024) (d : Fin 768) : Combine.blk W c 0 t (ix2 r d) = W c (Proc.devRef .tc main_v0) (ix2 (row t.val ht r) d) := by
  unfold Combine.blk; blk_simp
  refine congrArg (W c (Proc.devRef .tc main_v0)) ?_
  blk_ext [ci0, row]
theorem cb1 (t : Fin cfg1.N) (ht : t.val < 8) (r : Fin 1024) (e : Fin 8) : Combine.blk W c 1 t (ix2 r e) = W c (Proc.devRef .tc main_v29) (ix2 (row t.val ht r) e) := by
  unfold Combine.blk; blk_simp
  refine congrArg (W c (Proc.devRef .tc main_v29)) ?_
  blk_ext [ci1, row]
theorem cb2 (t : Fin cfg1.N) (o d : Fin 768) : Combine.blk W c 2 t (ix2 o d) = W c (Proc.devRef .tc main_v26) (ix2 o d) := by
  unfold Combine.blk; blk_simp
  refine congrArg (W c (Proc.devRef .tc main_v26)) ?_
  blk_ext [ci2]
theorem cb3 (t : Fin cfg1.N) (o : Fin 768) : Combine.blk W c 3 t (ix2 0 o) = W c (Proc.devRef .tc main_v28) (ix2 0 o) := by
  unfold Combine.blk; blk_simp
  refine congrArg (W c (Proc.devRef .tc main_v28)) ?_
  blk_ext [ci3]
theorem cb4 (t : Fin cfg1.N) (e : Fin 8) (o d : Fin 768) : Combine.blk W c 4 t (ix3 e o d) = W c (Proc.devRef .tc main_v27) (ix3 e o d) := by
  unfold Combine.blk; blk_simp
  refine congrArg (W c (Proc.devRef .tc main_v27)) ?_
  blk_ext [ci4]
theorem cb5 (t : Fin cfg1.N) (e : Fin 8) (o : Fin 768) : Combine.blk W c 5 t (ix2 e o) = W c (Proc.devRef .tc main_arg4) (ix2 e o) := by
  unfold Combine.blk; blk_simp
  refine congrArg (W c (Proc.devRef .tc main_arg4)) ?_
  blk_ext [ci5]
theorem gb0 (t : Fin cfg0.N) (ht : t.val < 8) (r : Fin 1024) (d : Fin 768) : Gate.blk W c 0 t (ix2 r d) = W c (Proc.devRef .tc main_v0) (ix2 (row t.val ht r) d) := by
  unfold Gate.blk; blk_simp
  refine congrArg (W c (Proc.devRef .tc main_v0)) ?_
  blk_ext [gi0, row]
theorem gb1 (t : Fin cfg0.N) (d : Fin 768) (k : Fin 64) : Gate.blk W c 1 t (ix2 d k) = W c (Proc.devRef .tc main_v3) (ix2 d k) := by
  unfold Gate.blk; blk_simp
  refine congrArg (W c (Proc.devRef .tc main_v3)) ?_
  blk_ext [gi1]
theorem gb2 (t : Fin cfg0.N) (i : Fin 3) (s k : Fin 64) : Gate.blk W c 2 t (ix3 i s k) = W c (Proc.devRef .tc main_v25) (ix3 i s k) := by
  unfold Gate.blk; blk_simp
  refine congrArg (W c (Proc.devRef .tc main_v25)) ?_
  blk_ext [gi2]

end Blocks

/-! ## The whole run -/

section Whole

variable (m : (ℓ : Loc nD τ sig) → Buf (Elt Ideal) ℓ) (c : Dev nD)

/-- The arguments, by coordinates. -/
def tok (t : Fin 8192) (d : Fin 768) : EReal := m ((c.tc : Thread nD τ).loc main_arg0) (ix3 ⟨t.val / 2048, by omega⟩ ⟨t.val % 2048, by omega⟩ d)
def w0 (o d : Fin 768) : EReal := m ((c.tc : Thread nD τ).loc main_arg1) (ix2 o d)
def b0 (o : Fin 768) : EReal := m ((c.tc : Thread nD τ).loc main_arg2) (ix1 o)
def wd (e : Fin 8) (o d : Fin 768) : EReal := m ((c.tc : Thread nD τ).loc main_arg3) (ix3 e o d)
def bd (e : Fin 8) (o : Fin 768) : EReal := m ((c.tc : Thread nD τ).loc main_arg4) (ix2 e o)
def basis (e : Fin 8) (d : Fin 768) (j : Fin 8) : EReal := m ((c.tc : Thread nD τ).loc main_arg5) (ix3 e d j)

variable (X : Fin 8192 → Fin 768 → ℝ) (O : Fin 8 → Fin 768 → Fin 8 → ℝ)
  (hX : tok m c = fun t d => (X t d : EReal)) (hO : basis m c = fun e d j => (O e d j : EReal))

/-- The basis vectors as columns. -/
def colR (d : Fin 768) (k : Fin 64) : ℝ := O ⟨k.val / 8, by omega⟩ d ⟨k.val % 8, by omega⟩

theorem colR_col (e : Fin 8) (d : Fin 768) (j : Fin 8) : colR O d (col e j) = O e d j := by
  unfold colR
  have h1 : (⟨(col e j).val / 8, by omega⟩ : Fin 8) = e := Fin.ext (by show (8 * e.val + j.val) / 8 = e.val; omega)
  have h2 : (⟨(col e j).val % 8, by omega⟩ : Fin 8) = j := Fin.ext (by show (8 * e.val + j.val) % 8 = j.val; omega)
  rw [h1, h2]

/-- The masked inner products of the columns. -/
def gramR (s k : Fin 64) : ℝ := if s.val / 8 = k.val / 8 then ∑ d, colR O d s * colR O d k else 0

include hX in
theorem tokens (t : Fin 8192) (d : Fin 768) : V3 m c (Proc.devRef .tc main_v0) (ix2 t d) = (X t d : EReal) :=
  (v0_at (V0 m c) t d).trans (congrFun (congrFun hX t) d)

include hO in
theorem columns (d : Fin 768) (k : Fin 64) : V3 m c (Proc.devRef .tc main_v3) (ix2 d k) = (colR O d k : EReal) :=
  (v3_at (V0 m c) d k).trans (congrFun (congrFun (congrFun hO _) d) _)

include hO in
theorem inner (s k : Fin 64) : V2 m c (Proc.devRef .tc main_v5) (ix2 s k) = ((∑ d, colR O d s * colR O d k : ℝ) : EReal) :=
  v5_at (V0 m c) O (fun e d j => congrFun (congrFun (congrFun hO e) d) j) s k

include hO in
theorem gram0 (s k : Fin 64) : V3 m c (Proc.devRef .tc main_v25) (ix3 0 s k) = (gramR O s k : EReal) :=
  (v25_0 _ s k).trans (v22_at (V2 m c) s k _ (inner m c O hO s k) (v8_at (V0 m c)))
include hO in
theorem gram1 (s k : Fin 64) : V3 m c (Proc.devRef .tc main_v25) (ix3 1 s k) = (0 : EReal) :=
  (v25_1 _ s k).trans (v23_at (V2 m c) s k _ (inner m c O hO s k) (v8_at (V0 m c)))
include hO in
theorem gram2 (s k : Fin 64) : V3 m c (Proc.devRef .tc main_v25) (ix3 2 s k) = (0 : EReal) :=
  (v25_2 _ s k).trans (v24_at (V2 m c) s k _ (inner m c O hO s k) (v8_at (V0 m c)))

include hX hO in
/-- The residual weights computed for block `n`. -/
theorem rw_at (t : Fin cfg0.N) (ht : t.val < 8) (r : Fin 1024) (e : Fin 8) :
    Gate.rwAt (V3 m) c t (ix2 r e) = weight (tok m c) (basis m c) (row t.val ht r) e := by
  unfold Gate.rwAt
  rw [rw_val _ _ _ (fun r d => X (row t.val ht r) d) (colR O)
    (fun r d => (gb0 (V3 m) c t ht r d).trans (tokens m c X hX _ d))
    (fun d k => (gb1 (V3 m) c t d k).trans (columns m c O hO d k)) (gramR O)
    (fun s k => (gb2 (V3 m) c t 0 s k).trans (gram0 m c O hO s k))
    (fun s k => (gb2 (V3 m) c t 1 s k).trans (gram1 m c O hO s k))
    (fun s k => (gb2 (V3 m) c t 2 s k).trans (gram2 m c O hO s k)) O (fun e d j => colR_col O e d j) (fun s k => rfl),
    hX, hO]
  unfold weight
  simp only [resid_real]

include hX hO in
theorem anyBlk_at (t : Fin cfg0.N) (ht : t.val < 8) :
    Pos (Gate.anyBlk (V3 m) c t) ↔ ∃ r e, thr < weight (tok m c) (basis m c) (row t.val ht r) e := by
  unfold Gate.anyBlk
  rw [any_val]
  exact exists_congr fun r => exists_congr fun e => by rw [← rw_at m c X O hX hO t ht r e]; rfl

include hX hO in
/-- The flag after `n` blocks. -/
theorem anyAt_iff (n : ℕ) (hn : n ≤ 8) :
    Pos (Gate.anyAt (V3 m) c n) ↔ ∃ (k : ℕ) (hk : k < 8) (r : Fin 1024) (e : Fin 8), k < n ∧ thr < weight (tok m c) (basis m c) (row k hk r) e := by
  induction n with
  | zero => exact ⟨fun h => absurd h (by simp [Pos, Gate.anyAt]), fun ⟨k, _, _, _, h, _⟩ => absurd h (Nat.not_lt_zero k)⟩
  | succ n ih =>
    have hN : cfg0.N = 16 := N_0
    have hs := Gate.anyAt_succ (V3 m) c ⟨n, by omega⟩
    rw [hs]
    refine (pos_max _ _).trans ?_
    rw [ih (by omega), anyBlk_at m c X O hX hO ⟨n, by omega⟩ (by show n < 8; omega)]
    constructor
    · rintro (⟨k, hk, r, e, h, h'⟩ | ⟨r, e, h⟩)
      · exact ⟨k, hk, r, e, by omega, h'⟩
      · exact ⟨n, by omega, r, e, by omega, h⟩
    · rintro ⟨k, hk, r, e, h, h'⟩
      by_cases hkn : k < n
      · exact .inl ⟨k, hk, r, e, hkn, h'⟩
      · obtain rfl : k = n := by omega
        exact .inr ⟨r, e, h'⟩

include hX hO in
theorem any_iff : Pos (Gate.anyAt (V3 m) c 8) ↔ Spec.any (tok m c) (basis m c) := by
  rw [anyAt_iff m c X O hX hO 8 le_rfl]
  constructor
  · rintro ⟨k, hk, r, e, -, h⟩; exact ⟨_, e, h⟩
  · rintro ⟨t, e, h⟩
    refine ⟨t.val / 1024, by omega, ⟨t.val % 1024, by omega⟩, e, by omega, ?_⟩
    rwa [show row (t.val / 1024) (by omega) ⟨t.val % 1024, by omega⟩ = t from Fin.ext (by show 1024 * (t.val / 1024) + t.val % 1024 = t.val; omega)]

include hX hO in
theorem weight_ne_bot (t : Fin 8192) (e : Fin 8) : weight (tok m c) (basis m c) t e ≠ ⊥ := by
  obtain ⟨q, -, hw⟩ := weight_real X O t
  rw [hX, hO, hw]
  exact EReal.coe_ne_bot _

theorem zeros : ∀ a, (![0, 0] : Fin 2 → Nat) a = 0 := by decide

include hX hO in
/-- The gate weights a storing point stores. -/
theorem nw_at (t : Fin cfg0.N) (h8 : 8 ≤ t.val) (r : Fin 1024) (e : Fin 8) (hn : t.val - 8 < 8) :
    Gate.outAt (V3 m) c t (ix2 r e) = gate (tok m c) (basis m c) (row (t.val - 8) hn r) e := by
  have hp : (Gate.ptOf (t.val - 8)).val = t.val - 8 := Nat.mod_eq_of_lt (by omega)
  have hw : (fun e => (Gate.rwAt (V3 m) c (Gate.ptOf (t.val - 8)) (ix2 r e) : EReal)) = weight (tok m c) (basis m c) (row (t.val - 8) hn r) := by
    funext e
    refine (rw_at m c X O hX hO (Gate.ptOf (t.val - 8)) (by omega) r e).trans ?_
    congr 2
  have h := nw_val (Gate.rwAt (V3 m) c (Gate.ptOf (t.val - 8))) (Gate.anyAt (V3 m) c 8) r
    (fst (tok m c) (basis m c) (row (t.val - 8) hn r)) (snd (tok m c) (basis m c) (row (t.val - 8) hn r))
    (by rw [hw]; exact fst_spec _ _ _) (by rw [hw]; exact snd_spec _ _ _)
    (fun e => by rw [congrFun hw e]; exact weight_ne_bot m c X O hX hO _ e) e
  rw [hw] at h
  unfold Gate.outAt Gate.nwBlk
  refine (congrFun (View.canon_cons_unit_lit (S := S1024x8) inb_S1024x8_S1024x8_0_0 _ [] zeros) _).trans (h.trans ?_)
  unfold gate
  rw [propext (any_iff m c X O hX hO)]

include hX hO in
/-- The gate call's result array. -/
theorem gate_array : (Gate.dat (V3 m) c).arrAt 3 cfg0.N
    = fun i : S8192x8.Idx => gate (tok m c) (basis m c) (i 0) (i 1) := by
  refine (Gate.dat (V3 m) c).arrAt_eq_of_covers 3 _ (by decide +kernel) fun t hf y => ?_
  have hN : cfg0.N = 16 := N_0
  have ht : t.val < 16 := Nat.lt_of_lt_of_eq t.isLt N_0
  have h8 : 8 ≤ t.val := by
    by_contra h
    rw [Gate.noflush_fill t (by omega)] at hf
    exact Bool.noConfusion hf
  blk_simp
  rw [Gate.after_out]
  obtain ⟨r, e, rfl⟩ : ∃ (r : Fin 1024) (e : Fin 8), y = ix2 r e := ⟨y 0, y 1, eq_ix2 y⟩
  rw [nw_at m c X O hX hO t h8 r e (by omega)]
  have hi : (win0_3.blk t).view.emb (ix2 r e) = ix2 (row (t.val - 8) (by omega) r) e := by blk_ext [gi3, row]
  rw [hi]
  rfl

include hX hO in
theorem w4_gate (t : Fin 8192) (e : Fin 8) : W4 m c (Proc.devRef .tc main_v29) (ix2 t e) = gate (tok m c) (basis m c) t e := by
  have h := Pipeline.afterRegion_arr (Gate.dat (V3 m) c) (V3 m c) launch0.win.arr_inj 3
  exact (congrFun (h.trans (gate_array m c X O hX hO)) (ix2 t e))

/-- Every other buffer passes the gate call. -/
theorem w4_other (b : Ref sig .tc) (hb : ∀ w, Pipeline.arrRef spec0 w = b → (cfg0.win w).isOut = false) :
    W4 m c (Proc.devRef .tc b) = V3 m c (Proc.devRef .tc b) :=
  Pipeline.afterRegion_keeps (Gate.dat (V3 m) c) (V3 m c) launch0.win.arr_inj (fun _ => rfl) b hb

theorem out_blk (t : Fin cfg1.N) : Combine.outAt (W4 m) c t = Combine.outVal (Combine.blk (W4 m) c 0 t) (Combine.blk (W4 m) c 1 t)
    (Combine.blk (W4 m) c 2 t) (Combine.blk (W4 m) c 3 t) (Combine.blk (W4 m) c 4 t) (Combine.blk (W4 m) c 5 t) := by
  unfold Combine.outAt Combine.outBlk
  exact View.canon_cons_unit_lit (S := S1024x768) inb_S1024x768_S1024x768_0_0 _ [] zeros

include hX hO in
/-- The combine call's result array. -/
theorem out_array : (Combine.dat (W4 m) c).arrAt 6 cfg1.N
    = fun i : S8192x768.Idx => Spec.out (tok m c) (w0 m c) (b0 m c) (wd m c) (bd m c) (basis m c) (i 0) (i 1) := by
  refine (Combine.dat (W4 m) c).arrAt_eq_of_covers 6 _ (by decide +kernel) fun t hf y => ?_
  have ht : t.val < 8 := Nat.lt_of_lt_of_eq t.isLt N_1
  blk_simp
  rw [Combine.after_out, out_blk]
  obtain ⟨r, o, rfl⟩ : ∃ (r : Fin 1024) (o : Fin 768), y = ix2 r o := ⟨y 0, y 1, eq_ix2 y⟩
  have hi : (win1_6.blk t).view.emb (ix2 r o) = ix2 (row t.val ht r) o := by blk_ext [ci6, row]
  rw [hi]
  have e0 : ∀ d, Combine.blk (W4 m) c 0 t (ix2 r d) = tok m c (row t.val ht r) d := fun d =>
    (cb0 (W4 m) c t ht r d).trans <| (congrFun (w4_other m c main_v0 (by decide)) _).trans (v0_at (V0 m c) _ d)
  have e1 : ∀ e, Combine.blk (W4 m) c 1 t (ix2 r e) = gate (tok m c) (basis m c) (row t.val ht r) e := fun e =>
    (cb1 (W4 m) c t ht r e).trans (w4_gate m c X O hX hO _ e)
  have e2 : ∀ d, Combine.blk (W4 m) c 2 t (ix2 o d) = w0 m c o d := fun d =>
    (cb2 (W4 m) c t o d).trans <| (congrFun (w4_other m c main_v26 (by decide)) _).trans (v26_at (V0 m c) o d)
  have e3 : Combine.blk (W4 m) c 3 t (ix2 0 o) = b0 m c o :=
    (cb3 (W4 m) c t o).trans <| (congrFun (w4_other m c main_v28 (by decide)) _).trans (v28_at (V0 m c) o)
  have e4 : ∀ e d, Combine.blk (W4 m) c 4 t (ix3 e o d) = wd m c e o d := fun e d =>
    (cb4 (W4 m) c t e o d).trans <| (congrFun (w4_other m c main_v27 (by decide)) _).trans (v27_at (V0 m c) e o d)
  have e5 : ∀ e, Combine.blk (W4 m) c 5 t (ix2 e o) = bd m c e o := fun e =>
    (cb5 (W4 m) c t e o).trans <| (congrFun (w4_other m c main_arg4 (by decide)) _).trans (congrFun (arg4_at (V0 m c)) _)
  refine (outVal_at _ _ _ _ _ _ r o).trans ?_
  simp only [e0, e1, e2, e3, e4, e5]
  show _ = Spec.out (tok m c) (w0 m c) (b0 m c) (wd m c) (bd m c) (basis m c) (row t.val ht r) o
  unfold Spec.out
  have hf : ∀ e, 0 ≤ gate (tok m c) (basis m c) (row t.val ht r) e ∧ gate (tok m c) (basis m c) (row t.val ht r) e ≠ ⊤ := fun e => by
    rw [hX, hO]; exact gate_finite X O _ e
  rw [Spec.combine _ _ _ _ (fun e => (hf e).1) (fun e => (hf e).2)]
  simp only [mul_comm (wd m c _ o _)]

include hX hO in
/-- The program's result. -/
theorem result (b : Fin 4) (s : Fin 2048) (o : Fin 768) : W6 m c (Proc.devRef .tc main_v31) (ix3 b s o)
    = Spec.out (tok m c) (w0 m c) (b0 m c) (wd m c) (bd m c) (basis m c) ⟨b.val * 2048 + s.val, by omega⟩ o := by
  have h := Pipeline.afterRegion_arr (Combine.dat (W4 m) c) (W4 m c) launch1.win.arr_inj 6
  refine (v31_at (W5 m c) b s o).trans ?_
  exact congrFun (h.trans (out_array m c X O hX hO)) _

end Whole

end Cert.KerVal

end
-- ==== Proof.Finite.lean ====
/-
  The precondition read as mathematics: the tokens and the bases are real numbers.
-/
module

public import proofs.«01_k».proof.Defs
public import proofs.«01_k».proof.Proof.KerVal
public import Idealize.ShloMosaic.Lib.Pointwise
public import Idealize.ShloMosaic.Lib.Claim
public import Idealize.ShloMosaic.Lib.ReduceAll

@[expose] public section

set_option maxRecDepth 16384

noncomputable section

namespace Cert.Finite

open Cert.KernelIdeal Idealize.ShloMosaic Idealize.SL.Sem Idealize.ShloMosaic.TcCoe

theorem ofBits_top : Ideal.ofBits FTy.f32 2139095040#32 = ⊤ := by
  simp [Ideal.ofBits, Ideal.ieee]

theorem finite_of (a : EReal) (h : max a (-a) < ⊤) : a ≠ ⊤ ∧ a ≠ ⊥ := by
  constructor <;> rintro rfl <;> simp at h

theorem facts : Cert.Pre_finite_inputs.Facts :=
  ⟨by decide, by decide, by decide, by decide, by decide⟩

/-- One array's condition: if the comparisons of its magnitudes with infinity are all true, its elements are finite. -/
theorem all_finite {s t u : Shape} {axes : List (Fin s.rank)} [Subsingleton t.Idx] (x y : FVec Ideal s .f32) (hy : ∀ i, y i = (⊤ : EReal))
    (init : IVec u 1) (h : s.ReducesTo axes t) (hu : 0 < u.numel) (j : t.Idx)
    (e : Host.reduce IntOp.andi (cmpf .olt (Host.absf x) y) init h hu j = 1#1) (i : s.Idx) :
    (x i : EReal) ≠ ⊤ ∧ (x i : EReal) ≠ ⊥ := by
  have h1 := Host.reduce_andi_all _ init h hu j e i
  refine finite_of (x i) ?_
  rw [← hy i]
  by_contra hc
  have : cmpf .olt (Host.absf x) y i = 0#1 := by
    show BitVec.ofBool (decide (max (x i) (-(x i)) < y i)) = 0#1
    rw [decide_eq_false hc]; rfl
  rw [this] at h1
  exact absurd h1 (by decide)

theorem and_one {a b : BitVec 1} (h : IntOp.andi a b = 1#1) : a = 1#1 ∧ b = 1#1 := by
  revert a b; decide

instance : Subsingleton Cert.Pre_finite_inputs.S_.Idx := ⟨fun a b => funext fun x => x.elim0⟩

variable [hP : Cert.Pre_finite_inputs.Facts] (m : (ℓ : Loc nD τ sig) → Buf (Elt Ideal) ℓ)

theorem read (h : Cert.Pre_KernelIdeal_finite_inputs m) (c : Dev nD) :
    (∀ t d, KerVal.tok m c t d ≠ ⊤ ∧ KerVal.tok m c t d ≠ ⊥) ∧ ∀ e d j, KerVal.basis m c e d j ≠ ⊤ ∧ KerVal.basis m c e d j ≠ ⊥ := by
  obtain ⟨h1, h2⟩ := and_one (congrFun (h c) ix0)
  exact ⟨fun t d => all_finite _ _ (fun _ => ofBits_top) _ _ _ _ h1 _, fun e d j => all_finite _ _ (fun _ => ofBits_top) _ _ _ _ h2 _⟩

/-- The tokens and the bases as reals. -/
theorem reals (h : Cert.Pre_KernelIdeal_finite_inputs m) (c : Dev nD) :
    ∃ (X : Fin 8192 → Fin 768 → ℝ) (O : Fin 8 → Fin 768 → Fin 8 → ℝ),
      KerVal.tok m c = (fun t d => (X t d : EReal)) ∧ KerVal.basis m c = fun e d j => (O e d j : EReal) := by
  obtain ⟨h1, h2⟩ := read m h c
  refine ⟨fun t d => (KerVal.tok m c t d).toReal, fun e d j => (KerVal.basis m c e d j).toReal, ?_, ?_⟩
  · funext t d
    exact (EReal.coe_toReal (h1 t d).1 (h1 t d).2).symm
  · funext e d j
    exact (EReal.coe_toReal (h2 e d j).1 (h2 e d j).2).symm

end Cert.Finite

end
-- ==== Proof.Pick.lean ====
/-
  The choices of the reference, one token's row at a time: the argmax as a fold over the row, the two largest as the head
  of a stable sort of the row, and the scatters that turn the chosen places into masks.
-/
module

public import proofs.«01_k».proof.Proof.Spec
public import proofs.«01_k».proof.Proof.Ref
public import Idealize.ShloMosaic.Lib.SortFacts
public import Idealize.ShloMosaic.Lib.Routing.OpsPair
public import Idealize.ShloMosaic.Lib.Routing.OpsSet

@[expose] public section

set_option maxRecDepth 16384

noncomputable section

namespace Cert.Pick

open Idealize.ShloMosaic Cert.Spec

/-! ## Which place comes first -/

/-- Place `i` comes before place `j`: it weighs more, or as much and stands earlier. -/
def Before (p : Fin 8 → EReal) (i j : Fin 8) : Prop := p j < p i ∨ (p j = p i ∧ i < j)

theorem Before.trans {p : Fin 8 → EReal} {i j k : Fin 8} (h : Before p i j) (h' : Before p j k) : Before p i k := by
  rcases h with h | ⟨h, hi⟩ <;> rcases h' with h' | ⟨h', hj⟩
  · exact .inl (h'.trans h)
  · exact .inl (h' ▸ h)
  · exact .inl (h ▸ h')
  · exact .inr ⟨h'.trans h, hi.trans hj⟩

theorem Before.ne {p : Fin 8 → EReal} {i j : Fin 8} (h : Before p i j) : i ≠ j := by
  rintro rfl
  rcases h with h | ⟨_, h⟩ <;> exact lt_irrefl _ h

theorem Before.le {p : Fin 8 → EReal} {i j : Fin 8} (h : Before p i j) : p j ≤ p i := by
  rcases h with h | ⟨h, _⟩
  · exact h.le
  · exact h.le

theorem Before.lt {p : Fin 8 → EReal} {i j : Fin 8} (h : Before p i j) (hj : j < i) : p j < p i := by
  rcases h with h | ⟨_, h⟩
  · exact h
  · exact absurd h (not_lt.mpr hj.le)

theorem first_of {p : Fin 8 → EReal} {i : Fin 8} (h : ∀ j, j = i ∨ Before p i j) : IsFirst p i := by
  refine ⟨fun j => ?_, fun j hj => ?_⟩
  · rcases h j with rfl | h
    · exact le_rfl
    · exact h.le
  · rcases h j with rfl | h
    · exact absurd hj (lt_irrefl _)
    · exact h.lt hj

theorem second_of {p : Fin 8 → EReal} {i k : Fin 8} (hk : k ≠ i) (h : ∀ j, j ≠ i → j = k ∨ Before p k j) : IsSecond p i k := by
  refine ⟨hk, fun j hi => ?_, fun j hj hi => ?_⟩
  · rcases h j hi with rfl | h
    · exact le_rfl
    · exact h.le
  · rcases h j hi with rfl | h
    · exact absurd hj (lt_irrefl _)
    · exact h.lt hj

theorem second_unique (p : Fin 8 → EReal) {i k k' : Fin 8} (h : IsSecond p i k) (h' : IsSecond p i k') : k = k' := by
  rcases lt_trichotomy k k' with hl | he | hl
  · exact absurd (h'.2.2 k hl h.1) (not_lt.mpr (h.2.1 k' h'.1))
  · exact he
  · exact absurd (h.2.2 k' hl h'.1) (not_lt.mpr (h'.2.1 k h.1))

/-! ## The stable sort -/

theorem insert_sorted {p : Fin 8 → EReal} {r : Fin 8 → Fin 8 → Bool} (hr : ∀ i j, r i j = true ↔ p j < p i) (a : Fin 8) :
    ∀ l : List (Fin 8), l.Pairwise (Before p) → (∀ x ∈ l, a < x) → (insertBefore r a l).Pairwise (Before p)
  | [], _, _ => List.pairwise_singleton _ _
  | b :: l, hl, ha => by
    unfold insertBefore
    have hb := List.pairwise_cons.mp hl
    split
    · rename_i h
      refine List.pairwise_cons.mpr ⟨fun x hx => ?_, insert_sorted hr a l hb.2 fun x hx => ha x (.tail _ hx)⟩
      rcases List.mem_cons.mp ((perm_insertBefore r a l).mem_iff.mp hx) with rfl | hx
      · exact .inl ((hr b x).mp h)
      · exact hb.1 x hx
    · rename_i h
      have hab : Before p a b := by
        rcases lt_or_eq_of_le (not_lt.mp fun h' => h ((hr b a).mpr h')) with h' | h'
        · exact .inl h'
        · exact .inr ⟨h', ha b (.head _)⟩
      refine List.pairwise_cons.mpr ⟨fun x hx => ?_, hl⟩
      rcases List.mem_cons.mp hx with rfl | hx
      · exact hab
      · exact hab.trans (hb.1 x hx)

theorem sort_sorted {p : Fin 8 → EReal} {r : Fin 8 → Fin 8 → Bool} (hr : ∀ i j, r i j = true ↔ p j < p i) :
    ∀ l : List (Fin 8), l.Pairwise (· < ·) → (stableSort r l).Pairwise (Before p)
  | [], _ => List.Pairwise.nil
  | a :: l, h => by
    have ha := List.pairwise_cons.mp h
    exact insert_sorted hr a _ (sort_sorted hr l ha.2) fun x hx => ha.1 x ((perm_stableSort r l).mem_iff.mp hx)

/-- The sort puts each place before all later ones, -/
theorem sorted_before {p : Fin 8 → EReal} {r : Fin 8 → Fin 8 → Bool} (hr : ∀ i j, r i j = true ↔ p j < p i) {a b : Fin 8}
    (h : a < b) : Before p (sortedFrom r a) (sortedFrom r b) :=
  List.pairwise_iff_get.mp (sort_sorted hr _ (List.pairwise_lt_finRange 8)) _ _ h

/-- so its head is the first of the largest, -/
theorem sorted_first {p : Fin 8 → EReal} {r : Fin 8 → Fin 8 → Bool} (hr : ∀ i j, r i j = true ↔ p j < p i) :
    IsFirst p (sortedFrom r 0) := by
  refine first_of fun j => ?_
  obtain ⟨a, rfl⟩ := sortedFrom_surjective r j
  by_cases h : a = 0
  · exact .inl (by rw [h])
  · exact .inr (sorted_before hr (Fin.pos_iff_ne_zero.mpr h))

/-- and the next the first of the largest besides. -/
theorem sorted_second {p : Fin 8 → EReal} {r : Fin 8 → Fin 8 → Bool} (hr : ∀ i j, r i j = true ↔ p j < p i) :
    IsSecond p (sortedFrom r 0) (sortedFrom r 1) := by
  refine second_of (sorted_before hr (by decide)).ne.symm fun j hj => ?_
  obtain ⟨a, rfl⟩ := sortedFrom_surjective r j
  have h0 : a ≠ 0 := fun h => hj (by rw [h])
  by_cases h : a = 1
  · exact .inl (by rw [h])
  · exact .inr (sorted_before hr (by omega))

/-! ## The argmax -/

section Argmax

open Cert.ReferenceIdeal Cert.ReferenceIdeal.Facts₀

/-- One step of the argmax keeps whichever of two distinct places comes first. -/
theorem step (p : Fin 8 → EReal) (i j : Fin 8) :
    ∃ k, (k = i ∨ k = j) ∧ (i = k ∨ Before p k i) ∧ (j = k ∨ Before p k j)
      ∧ reducer_argmax_f32_i32 (F := Ideal) (p i, BitVec.ofNat 32 i.val) (p j, BitVec.ofNat 32 j.val) = (p k, BitVec.ofNat 32 k.val) := by
  have hw : (BitVec.ofNat 32 i.val).slt (BitVec.ofNat 32 j.val) = decide (i < j) := by revert i j; decide
  have hred : reducer_argmax_f32_i32 (F := Ideal) (p i, BitVec.ofNat 32 i.val) (p j, BitVec.ofNat 32 j.val)
      = (if p j < p i then p i else p j, if p j < p i ∨ (p i = p j ∧ i < j) then BitVec.ofNat 32 i.val else BitVec.ofNat 32 j.val) := by
    unfold reducer_argmax_f32_i32
    simp only [IntOp.cmpi, hw]
    by_cases h1 : p j < p i <;> by_cases h2 : p i = p j <;> by_cases h3 : i < j <;>
      simp [FloatOps.cmpf, Ideal.cmp, IntOp.ori, IntOp.andi, Scalar.select, h1, h2, h3]
  rw [hred]
  rcases lt_trichotomy (p j) (p i) with h | h | h
  · exact ⟨i, .inl rfl, .inl rfl, .inr (.inl h), by rw [if_pos h, if_pos (.inl h)]⟩
  · rcases lt_trichotomy i j with hl | hl | hl
    · exact ⟨i, .inl rfl, .inl rfl, .inr (.inr ⟨h, hl⟩), by rw [if_neg h.not_lt, if_pos (.inr ⟨h.symm, hl⟩), h]⟩
    · subst hl
      exact ⟨i, .inl rfl, .inl rfl, .inl rfl, by simp⟩
    · refine ⟨j, .inr rfl, .inr (.inr ⟨h.symm, hl⟩), .inl rfl, ?_⟩
      rw [if_neg h.not_lt, if_neg]
      rintro (h' | ⟨_, h'⟩)
      · exact h.not_lt h'
      · exact absurd h' (not_lt.mpr hl.le)
  · refine ⟨j, .inr rfl, .inr (.inl h), .inl rfl, ?_⟩
    rw [if_neg h.le.not_gt, if_neg]
    rintro (h' | ⟨h', _⟩)
    · exact h.le.not_gt h'
    · exact h.ne h'

theorem fold_pick (p : Fin 8 → EReal) : ∀ (l : List (Fin 8)) (i : Fin 8), ∃ k,
    (l.map fun j => ((p j, BitVec.ofNat 32 j.val) : Ideal .f32 × BitVec 32)).foldl (reducer_argmax_f32_i32 (F := Ideal))
        (p i, BitVec.ofNat 32 i.val) = (p k, BitVec.ofNat 32 k.val)
      ∧ ∀ j ∈ i :: l, j = k ∨ Before p k j
  | [], i => ⟨i, rfl, fun j hj => .inl (List.mem_singleton.mp hj)⟩
  | a :: l, i => by
    obtain ⟨b, _, hi, ha, hs⟩ := step p i a
    obtain ⟨k, hk, hall⟩ := fold_pick p l b
    refine ⟨k, ?_, fun j hj => ?_⟩
    · rw [List.map_cons, List.foldl_cons, hs, hk]
    · have via : ∀ x, x = b ∨ Before p b x → x = k ∨ Before p k x := fun x hx => by
        rcases hx with rfl | hx
        · exact hall x (.head _)
        · rcases hall b (.head _) with rfl | hb
          · exact .inr hx
          · exact .inr (hb.trans hx)
      rcases List.mem_cons.mp hj with rfl | hj
      · exact via j hi
      · rcases List.mem_cons.mp hj with rfl | hj
        · exact via j ha
        · exact hall j (.tail _ hj)

/-- Over any list of all places, the fold from below leaves the first of the largest. -/
theorem fold_first (p : Fin 8 → EReal) (hp : ∀ i, ⊥ < p i) (l : List (Fin 8)) (hl : ∀ i, i ∈ l) : ∃ k, IsFirst p k ∧
    (l.map fun j => ((p j, BitVec.ofNat 32 j.val) : Ideal .f32 × BitVec 32)).foldl (reducer_argmax_f32_i32 (F := Ideal))
        (⊥, 0#32) = (p k, BitVec.ofNat 32 k.val) := by
  cases l with
  | nil => exact absurd (hl 0) (by simp)
  | cons a l =>
    obtain ⟨k, hk, hall⟩ := fold_pick p l a
    refine ⟨k, first_of fun j => hall j (hl j), ?_⟩
    have hstep : reducer_argmax_f32_i32 (F := Ideal) (⊥, 0#32) (p a, BitVec.ofNat 32 a.val) = (p a, BitVec.ofNat 32 a.val) := by
      have h1 : ¬ p a < ⊥ := not_lt_bot
      have h2 : ¬ ((⊥ : EReal) = p a) := (hp a).ne
      unfold reducer_argmax_f32_i32
      simp [FloatOps.cmpf, Ideal.cmp, IntOp.ori, IntOp.andi, Scalar.select, h1, h2]
    rw [List.map_cons, List.foldl_cons, hstep, hk]

variable [Cert.ReferenceIdeal.Facts]

theorem drop_iff (i : S8192x8.Idx) (t : Fin 8192) : reducesTo_S8192x8_S8192_d1.drop i = ix1 t ↔ i 0 = t := by
  have h : (reducesTo_S8192x8_S8192_d1.drop i 0 : ℕ) = i 0 :=
    Shape.ReducesTo.drop_apply_val_of_eq reducesTo_S8192x8_S8192_d1 i 0 0
  constructor
  · intro e
    rw [e] at h
    exact Fin.ext h.symm
  · rintro rfl
    rw [eq_ix1 (reducesTo_S8192x8_S8192_d1.drop i)]
    exact congrArg ix1 (Fin.ext h)

/-- The place in its row of an index. -/
def col (i : S8192x8.Idx) : Fin 8 := i 1

/-- The argmax of a row is the first place of its largest weight. -/
theorem argmax_val (W : Fin 8192 → Fin 8 → EReal) (t : Fin 8192) (hp : ∀ i, ⊥ < W t i) (x : FVec Ideal S8192x8 .f32)
    (hx : ∀ t e, x (ix2 t e) = W t e) {k : Fin 8} (hk : IsFirst (W t) k) :
    (Host.argReduce reducer_argmax_f32_i32 x (iotaInDim S8192x8 32 1) (constant (F := Ideal) S_ .f32 4286578688#32)
        (constantI S_ 32 0#32) reducesTo_S8192x8_S8192_d1 h_S_ (ix1 t)).2 = BitVec.ofNat 32 k.val := by
  rw [Ideal.argReduce_eq_reduce2, Host.reduce2_eq_foldl_fiber]
  set l : List (Fin 8) := ((List.finRange S8192x8.numel).filter fun n =>
    reducesTo_S8192x8_S8192_d1.drop (S8192x8.rowMajor.symm n) = ix1 t).map fun n => col (S8192x8.rowMajor.symm n) with hl
  have hf : Host.argReduceFiber x (iotaInDim S8192x8 32 1) reducesTo_S8192x8_S8192_d1 (ix1 t)
      = l.map fun j => ((W t j, BitVec.ofNat 32 j.val) : Ideal .f32 × BitVec 32) := by
    rw [hl, List.map_map]
    refine List.map_congr_left fun n hn => ?_
    have h0 := (drop_iff _ t).mp (of_decide_eq_true (List.mem_filter.mp hn).2)
    refine Prod.ext ?_ rfl
    show x (S8192x8.rowMajor.symm n) = W t (col (S8192x8.rowMajor.symm n))
    rw [← hx, ← h0]
    exact congrArg x (eq_ix2 _)
  have hm : ∀ i, i ∈ l := fun i => by
    rw [hl]
    refine List.mem_map.mpr ⟨S8192x8.rowMajor (ix2 t i), List.mem_filter.mpr ⟨List.mem_finRange _, ?_⟩, ?_⟩
    · rw [Equiv.symm_apply_apply]
      exact decide_eq_true ((drop_iff _ t).mpr rfl)
    · rw [Equiv.symm_apply_apply]; rfl
  obtain ⟨k', hk', he⟩ := fold_first (W t) hp l hm
  rw [hf]
  have hi : ((constant (F := Ideal) S_ .f32 4286578688#32) (Shape.Idx.first h_S_), (constantI S_ 32 0#32) (Shape.Idx.first h_S_))
      = ((⊥, 0#32) : Ideal .f32 × BitVec 32) := Prod.ext ofBits_bot rfl
  rw [hi, he, first_unique _ hk' hk]

/-! ## The two largest -/

theorem top_val (W : Fin 8192 → Fin 8 → EReal) (t : Fin 8192) (x : FVec Ideal S8192x8 .f32)
    (hx : ∀ t e, x (ix2 t e) = W t e) {i k : Fin 8} (hi : IsFirst (W t) i) (hk : IsSecond (W t) i k) (b : Fin 2) :
    (Host.topK S8192x2 1 (FloatOps.cmpfTotal .gt) x sliceFits_S8192x8_S8192x2).2 (ix2 t b)
      = BitVec.ofNat 32 (if b = 0 then i else k).val := by
  set r : Fin 8 → Fin 8 → Bool := fun a a' => FloatOps.cmpfTotal .gt (x (ix2 t a)) (x (ix2 t a')) == 1#1 with hr
  have hr' : ∀ a a', r a a' = true ↔ W t a' < W t a := fun a a' => by
    rw [hr]
    simp only [hx, Ideal.cmpfTotal_def]
    by_cases h : W t a' < W t a <;> simp [Ideal.cmp, CmpDirection.ordered, h]
  have h1 := first_unique _ (sorted_first hr') hi
  have h2 := second_unique _ (h1 ▸ sorted_second hr') hk
  have hv : (Host.topK S8192x2 1 (FloatOps.cmpfTotal .gt) x sliceFits_S8192x8_S8192x2).2 (ix2 t b)
      = BitVec.ofNat 32 (sortedFrom r ⟨b.val, by omega⟩).val := by
    obtain ⟨j, hj, h0, hb⟩ : ∃ j : S8192x8.Idx,
        (Host.topK S8192x2 1 (FloatOps.cmpfTotal .gt) x sliceFits_S8192x8_S8192x2).2 (ix2 t b)
          = BitVec.ofNat 32 (sortedFrom (fun a a' => FloatOps.cmpfTotal .gt (x (j.along 1 a)) (x (j.along 1 a')) == 1#1) (j 1)).val
        ∧ j 0 = t ∧ j 1 = (⟨b.val, by omega⟩ : Fin 8) :=
      ⟨_, rfl, Fin.ext (Nat.zero_add _), Fin.ext (Nat.zero_add _)⟩
    have hal : ∀ a : Fin 8, j.along 1 a = ix2 t a := fun a => by
      rw [eq_ix2 (j.along 1 a)]
      exact congrArg₂ ix2 h0 rfl
    rw [hj, hb, hr]
    refine congrArg (fun f => BitVec.ofNat 32 (sortedFrom f (⟨b.val, by omega⟩ : Fin 8)).val) ?_
    funext a a'
    exact congrArg₂ (fun u v => FloatOps.cmpfTotal .gt (x u) (x v) == 1#1) (hal a) (hal a')
  rw [hv]
  fin_cases b
  · simp [← h1]
  · simp [← h2]

/-! ## The masks -/

theorem word_int (n : ℕ) (h : n < 2 ^ 31) : (BitVec.ofNat 32 n).toInt = n := StableHlo.Predicate.toInt_ofNat_small n h

theorem lands_row (idx : IVec S8192x2 32) (a : Fin 8192) (r : Fin 8192) (e : Fin 8) :
    scatter_S8192x8_S8192x2_S8192_n_01_01_1.resultIdx? (ix1 a) idx = some (ix2 r e)
      ↔ (idx (ix2 a 0)).toInt = r.val ∧ (idx (ix2 a 1)).toInt = e.val := by
  have hs : ∀ q : Fin 2, scatter_S8192x8_S8192x2_S8192_n_01_01_1.start (ix1 a) idx q = (idx (ix2 a q)).toInt := by
    intro q
    have hm : ∀ q : Fin 2, q ∈ scatter_S8192x8_S8192x2_S8192_n_01_01_1.scatterDimsToOperandDims := by decide
    have hi : scatter_S8192x8_S8192x2_S8192_n_01_01_1.siIdx (ix1 a)
        ⟨scatter_S8192x8_S8192x2_S8192_n_01_01_1.scatterDimsToOperandDims.idxOf q, List.idxOf_lt_length_iff.2 (hm q)⟩ = ix2 a q := by
      funext x
      fin_cases q <;> fin_cases x <;> rfl
    rw [← hi]
    unfold ScatterDims.start
    rw [dif_pos (hm q)]
  have hw : ∀ q : Fin 2, scatter_S8192x8_S8192x2_S8192_n_01_01_1.window (ix1 a) q = 0 := by
    intro q
    fin_cases q <;> rfl
  refine (Routing.resultIdx?_ix2 scatter_S8192x8_S8192x2_S8192_n_01_01_1 (ix1 a) idx r e).trans ?_
  rw [hs, hs, hw, hw]
  omega

/-- One place a row marked: the mask holds there alone. -/
theorem mask_one (x0 : IVec S8192x8 1) (h0 : ∀ i, x0 i = 0#1) (upd : IVec S8192 1) (hu : ∀ k, upd k = 1#1) (idx : IVec S8192x2 32)
    (pick : Fin 8192 → Fin 8) (hr : ∀ t, idx (ix2 t 0) = BitVec.ofNat 32 t.val) (hc : ∀ t, idx (ix2 t 1) = BitVec.ofNat 32 (pick t).val)
    (t : Fin 8192) (e : Fin 8) :
    Host.scatter scatter_S8192x8_S8192x2_S8192_n_01_01_1 (fun _ b => b) x0 idx upd (ix2 t e) = BitVec.ofBool (decide (e = pick t)) := by
  have lands : ∀ a, scatter_S8192x8_S8192x2_S8192_n_01_01_1.resultIdx? (ix1 a) idx = some (ix2 t e) ↔ a = t ∧ e = pick a := fun a => by
    rw [lands_row, hr, hc, word_int _ (by omega), word_int _ (by omega), Fin.ext_iff, Fin.ext_iff]
    omega
  by_cases h : e = pick t
  · rw [Routing.scatter_set_hit _ x0 idx upd _ 1#1 (fun k _ => hu k) (ix1 t) ((lands t).mpr ⟨rfl, h⟩), decide_eq_true h]
    rfl
  · rw [Routing.scatter_set_miss _ x0 idx upd, h0, decide_eq_false h]
    · rfl
    · intro k hk
      rw [eq_ix1 k] at hk
      obtain ⟨h1, h2⟩ := (lands _).mp hk
      exact h (h1 ▸ h2)

/-- Two places a row marked. -/
theorem mask_two (x0 : IVec S8192x8 1) (h0 : ∀ i, x0 i = 0#1) (upd : IVec S8192x2 1) (hu : ∀ k, upd k = 1#1) (idx : IVec S8192x2x2 32)
    (pick : Fin 8192 → Fin 2 → Fin 8) (hr : ∀ t b, idx (ix3 t b 0) = BitVec.ofNat 32 t.val)
    (hc : ∀ t b, idx (ix3 t b 1) = BitVec.ofNat 32 (pick t b).val) (t : Fin 8192) (e : Fin 8) :
    Host.scatter scatter_S8192x8_S8192x2x2_S8192x2_n_01_01_2 (fun _ b => b) x0 idx upd (ix2 t e)
      = BitVec.ofBool (decide (e = pick t 0 ∨ e = pick t 1)) := by
  have lands : ∀ a b, scatter_S8192x8_S8192x2x2_S8192x2_n_01_01_2.resultIdx? (ix2 a b) idx = some (ix2 t e) ↔ a = t ∧ e = pick a b := fun a b => by
    refine (Routing.scatter_lands2 scatter_S8192x8_S8192x2x2_S8192x2_n_01_01_2 rfl rfl rfl idx a b t e).trans ?_
    show (idx (ix3 a b 0)).toInt = _ ∧ (idx (ix3 a b 1)).toInt = _ ↔ _
    rw [hr, hc, word_int _ (by omega), word_int _ (by omega), Fin.ext_iff, Fin.ext_iff]
    omega
  by_cases h : e = pick t 0 ∨ e = pick t 1
  · obtain ⟨b, hb⟩ : ∃ b, e = pick t b := by rcases h with h | h <;> exact ⟨_, h⟩
    rw [Routing.scatter_set_hit _ x0 idx upd _ 1#1 (fun k _ => hu k) (ix2 t b) ((lands t b).mpr ⟨rfl, hb⟩), decide_eq_true h]
    rfl
  · rw [Routing.scatter_set_miss _ x0 idx upd, h0, decide_eq_false h]
    · rfl
    · intro k hk
      rw [eq_ix2 k] at hk
      obtain ⟨h1, h2⟩ := (lands _ _).mp hk
      refine h ?_
      rw [h1] at h2
      have hb : ∀ b : Fin 2, e = pick t b → e = pick t 0 ∨ e = pick t 1 := fun b => by fin_cases b <;> tauto
      exact hb _ h2

end Argmax

end Cert.Pick

end
-- ==== Proof.RefVal.lean ====
/-
  What the reference computes, stage by stage: the residuals, the weights, the threshold's mask, the argmax's mask, the
  mask of the two largest, the renormalised weights and the output, each in the terms of the common mathematics.
-/
module

public import proofs.«01_k».proof.Proof.Pick
public import proofs.«01_k».proof.Proof.KerVal
public import Idealize.ShloMosaic.Lib.Routing.OpsOrder
public import Idealize.ShloMosaic.Lib.Pointwise
public import Idealize.ShloMosaic.Lib.StableHlo.ReadAt

@[expose] public section

set_option maxRecDepth 16384

noncomputable section

namespace Cert.RefVal

open Cert.ReferenceIdeal Cert.ReferenceIdeal.Facts₀ Cert.Spec Idealize.ShloMosaic

open Idealize.SL Idealize.SL.Sem Idealize.ShloMosaic.TcCoe Idealize.ShloMosaic.StableHlo

variable [Cert.ReferenceIdeal.Facts]

abbrev Val := Valuation τ sig (Elt Ideal)

/-- The stages of the line. -/
def stage1 (U : Val) : Val := after (Ref.line.1.take 14) U
def stage2 (U : Val) : Val := after ((Ref.line.1.drop 14).take 16) U
def stage3 (U : Val) : Val := after ((Ref.line.1.drop 30).take 28) U
def stage4 (U : Val) : Val := after ((Ref.line.1.drop 58).take 3) U
def stage5 (U : Val) : Val := after ((Ref.line.1.drop 61).take 27) U
def stage6 (U : Val) : Val := after ((Ref.line.1.drop 88).take 3) U
def stage7 (U : Val) : Val := after ((Ref.line.1.drop 91).take 14) U
def stage8 (U : Val) : Val := after (Ref.line.1.drop 105) U

theorem stages (U : Val) : after Ref.line.1 U = stage8 (stage7 (stage6 (stage5 (stage4 (stage3 (stage2 (stage1 U))))))) := rfl

variable (U : Val)

/-- The arguments by their coordinates. -/
def tok (t : Fin 8192) (d : Fin 768) : EReal :=
  U (Proc.devRef .tc main_arg0) (ix3 (⟨t.val / 2048, by omega⟩ : Fin 4) (⟨t.val % 2048, by omega⟩ : Fin 2048) d)
def w0 (o d : Fin 768) : EReal := U (Proc.devRef .tc main_arg1) (ix2 o d)
def b0 (o : Fin 768) : EReal := U (Proc.devRef .tc main_arg2) (ix1 o)
def wd (e : Fin 8) (o d : Fin 768) : EReal := U (Proc.devRef .tc main_arg3) (ix3 e o d)
def bd (e : Fin 8) (o : Fin 768) : EReal := U (Proc.devRef .tc main_arg4) (ix2 e o)
def basis (e : Fin 8) (d : Fin 768) (j : Fin 8) : EReal := U (Proc.devRef .tc main_arg5) (ix3 e d j)

/-! ## Residuals and the base layer -/

theorem resid_val (t : Fin 8192) (e : Fin 8) :
    stage1 U (Proc.devRef .tc main_v10) (ix2 e t) = resid (tok U) (basis U) t e := by
  unfold stage1 resid tok basis
  after_reads_at

theorem base_val (b : Fin 4) (s : Fin 2048) (o : Fin 768) (t : Fin 8192) (ht : t.val = b.val * 2048 + s.val) :
    stage1 U (Proc.devRef .tc main_v3) (ix3 b s o) = ∑ d, tok U t d * w0 U o d + b0 U o := by
  have h1 : (⟨t.val / 2048, by omega⟩ : Fin 4) = b := Fin.ext (by show t.val / 2048 = _; omega)
  have h2 : (⟨t.val % 2048, by omega⟩ : Fin 2048) = s := Fin.ext (by show t.val % 2048 = _; omega)
  unfold stage1 tok w0 b0
  simp only [h1, h2]
  after_reads_at

theorem flat_val (t : Fin 8192) (d : Fin 768) : stage1 U (Proc.devRef .tc main_v4) (ix2 t d) = tok U t d := by
  unfold stage1 tok
  after_reads_at

/-! ## Weights -/

theorem weight_val (r : Fin 8192 → Fin 8 → EReal) (h : ∀ t e, U (Proc.devRef .tc main_v10) (ix2 e t) = r t e) (t : Fin 8192)
    (e : Fin 8) : stage2 U (Proc.devRef .tc main_v23) (ix2 t e) = softmax (fun e => - r t e) e := by
  unfold stage2 softmax
  after_reads_at
  simp only [h, ofBits_bot]
  simp

/-! ## The thresholds and the argmax -/

theorem above_val (w : Fin 8192 → Fin 8 → EReal) (h : ∀ t e, U (Proc.devRef .tc main_v23) (ix2 t e) = w t e) (t : Fin 8192)
    (e : Fin 8) : stage3 U (Proc.devRef .tc main_v25) (ix2 t e) = BitVec.ofBool (decide (thr < w t e)) := by
  unfold stage3
  after_reads_at
  simp only [h]

/-- A small index is not negative, and stays as it is. -/
theorem wrap (n : ℕ) (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

theorem row_val (t : Fin 8192) : stage3 U (Proc.devRef .tc main_v41) (ix2 t 0) = BitVec.ofNat 32 t.val := by
  unfold stage3
  after_reads_at
  exact wrap _ (by omega) _

theorem first_val (w : Fin 8192 → Fin 8 → EReal) (h : ∀ t e, U (Proc.devRef .tc main_v23) (ix2 t e) = w t e) (t : Fin 8192)
    (hb : ∀ e, ⊥ < w t e) (i : Fin 8) (hi : IsFirst (w t) i) :
    stage3 U (Proc.devRef .tc main_v41) (ix2 t 1) = BitVec.ofNat 32 i.val := by
  unfold stage3
  after_reads_at
  have e := Pick.argmax_val w t hb _ h hi
  rw [e]
  exact wrap _ (by omega) _

theorem zeros3 (i : S8192x8.Idx) : stage3 U (Proc.devRef .tc main_v27) i = 0#1 := by
  rw [eq_ix2 i]
  unfold stage3
  after_reads_at

theorem kept3 : stage3 U (Proc.devRef .tc main_v23) = U (Proc.devRef .tc main_v23) := by
  unfold stage3; after_reads_simp

/-- The mask of the argmax. -/
theorem mask_first (h0 : ∀ i, U (Proc.devRef .tc main_v27) i = 0#1) (i : Fin 8192 → Fin 8)
    (hr : ∀ t, U (Proc.devRef .tc main_v41) (ix2 t 0) = BitVec.ofNat 32 t.val)
    (hc : ∀ t, U (Proc.devRef .tc main_v41) (ix2 t 1) = BitVec.ofNat 32 (i t).val) (t : Fin 8192) (e : Fin 8) :
    stage4 U (Proc.devRef .tc main_v43) (ix2 t e) = BitVec.ofBool (decide (e = i t)) := by
  unfold stage4
  after_reads_at
  exact Pick.mask_one _ h0 _ (fun _ => rfl) _ i hr hc t e

theorem kept4 : stage4 U (Proc.devRef .tc main_v23) = U (Proc.devRef .tc main_v23)
    ∧ stage4 U (Proc.devRef .tc main_v25) = U (Proc.devRef .tc main_v25) := by
  unfold stage4; constructor <;> after_reads_simp

/-! ## The fallback and the two largest -/

theorem any_bit {ι : Type} [Fintype ι] [DecidableEq ι] (p : ι → Prop) [∀ x, Decidable (p x)] [Decidable (∃ x, p x)] :
    Finset.fold IntOp.ori 0#1 (fun x => BitVec.ofBool (decide (p x))) Finset.univ = BitVec.ofBool (decide (∃ x, p x)) := by
  have hb : ∀ b : Bool, BitVec.ofBool b = 1#1 ↔ b = true := by decide
  have h1 := Routing.fold_ori Finset.univ (fun x => BitVec.ofBool (decide (p x)))
  by_cases h : ∃ x, p x
  · obtain ⟨x, hx⟩ := h
    rw [h1.mpr ⟨x, Finset.mem_univ x, by rw [hb]; exact decide_eq_true hx⟩, decide_eq_true ⟨x, hx⟩]
    rfl
  · rw [decide_eq_false h]
    refine (BitVec.eq_zero_or_eq_one _).resolve_right fun h' => ?_
    obtain ⟨x, _, hx⟩ := h1.mp h'
    exact h ⟨x, of_decide_eq_true ((hb _).mp hx)⟩

open Classical in
theorem mask_val (w : Fin 8192 → Fin 8 → EReal) (any : Prop) (hany : any ↔ ∃ t e, thr < w t e) (i : Fin 8192 → Fin 8)
    (ha : ∀ t e, U (Proc.devRef .tc main_v25) (ix2 t e) = BitVec.ofBool (decide (thr < w t e)))
    (hm : ∀ t e, U (Proc.devRef .tc main_v43) (ix2 t e) = BitVec.ofBool (decide (e = i t))) (t : Fin 8192) (e : Fin 8) :
    stage5 U (Proc.devRef .tc main_v45) (ix2 t e)
      = BitVec.ofBool (decide (if any then thr < w t e else e = i t)) := by
  unfold stage5
  after_reads_at
  simp only [ha, hm]
  rw [any_bit (fun k : Fin 8192 × Fin 8 => thr < w k.1 k.2), WordCmp.select_decide]
  have he : any ↔ ∃ k : Fin 8192 × Fin 8, thr < w k.1 k.2 :=
    hany.trans ⟨fun ⟨t, e, h⟩ => ⟨(t, e), h⟩, fun ⟨k, h⟩ => ⟨k.1, k.2, h⟩⟩
  by_cases h : any
  · simp only [if_pos h, if_pos (he.mp h)]
  · simp only [if_neg h, if_neg (fun h' => h (he.mpr h'))]

theorem row2_val (t : Fin 8192) (b : Fin 2) : stage5 U (Proc.devRef .tc main_v62) (ix3 t b 0) = BitVec.ofNat 32 t.val := by
  unfold stage5
  after_reads_at
  exact wrap _ (by omega) _

theorem top_val (w : Fin 8192 → Fin 8 → EReal) (h : ∀ t e, U (Proc.devRef .tc main_v23) (ix2 t e) = w t e) (t : Fin 8192)
    (i k : Fin 8) (hi : IsFirst (w t) i) (hk : IsSecond (w t) i k) (b : Fin 2) :
    stage5 U (Proc.devRef .tc main_v62) (ix3 t b 1) = BitVec.ofNat 32 (if b = 0 then i else k).val := by
  unfold stage5
  after_reads_at
  have e := Pick.top_val w t _ h hi hk b
  rw [e]
  exact wrap _ (by omega) _

theorem zeros5 (i : S8192x8.Idx) : stage5 U (Proc.devRef .tc main_v46) i = 0#1 := by
  rw [eq_ix2 i]
  unfold stage5
  after_reads_at

theorem kept5 : stage5 U (Proc.devRef .tc main_v23) = U (Proc.devRef .tc main_v23) := by
  unfold stage5; after_reads_simp

/-- The mask of the two largest. -/
theorem mask_top (h0 : ∀ i, U (Proc.devRef .tc main_v46) i = 0#1) (i k : Fin 8192 → Fin 8)
    (hr : ∀ t b, U (Proc.devRef .tc main_v62) (ix3 t b 0) = BitVec.ofNat 32 t.val)
    (hc : ∀ t (b : Fin 2), U (Proc.devRef .tc main_v62) (ix3 t b 1) = BitVec.ofNat 32 (if b = 0 then i t else k t).val)
    (t : Fin 8192) (e : Fin 8) :
    stage6 U (Proc.devRef .tc main_v64) (ix2 t e) = BitVec.ofBool (decide (e = i t ∨ e = k t)) := by
  unfold stage6
  after_reads_at
  exact Pick.mask_two _ h0 _ (fun _ => rfl) _ (fun t b => if b = 0 then i t else k t) hr hc t e

theorem kept6 : stage6 U (Proc.devRef .tc main_v23) = U (Proc.devRef .tc main_v23)
    ∧ stage6 U (Proc.devRef .tc main_v45) = U (Proc.devRef .tc main_v45) := by
  unfold stage6; constructor <;> after_reads_simp

/-! ## The renormalised weights -/

open Classical in
theorem gate_val (w : Fin 8192 → Fin 8 → EReal) (any : Prop) (i k : Fin 8192 → Fin 8)
    (h : ∀ t e, U (Proc.devRef .tc main_v23) (ix2 t e) = w t e)
    (ha : ∀ t e, U (Proc.devRef .tc main_v45) (ix2 t e) = BitVec.ofBool (decide (if any then thr < w t e else e = i t)))
    (hm : ∀ t e, U (Proc.devRef .tc main_v64) (ix2 t e) = BitVec.ofBool (decide (e = i t ∨ e = k t))) (t : Fin 8192) (e : Fin 8) :
    stage7 U (Proc.devRef .tc main_v75) (ix2 t e) = route (w t) any (i t) (k t) e := by
  have hf : ∀ e, w t e * FloatOps.uitofp (F := Ideal) .f32 (IntOp.andi (BitVec.ofBool (decide (if any then thr < w t e else e = i t)))
      (BitVec.ofBool (decide (e = i t ∨ e = k t)))) = filt (w t) any (i t) (k t) e := fun e => by
    have hb : ∀ a b : Bool, IntOp.andi (BitVec.ofBool a) (BitVec.ofBool b) = BitVec.ofBool (a && b) := by decide
    rw [hb, KerVal.ubit_val]
    unfold filt
    by_cases h : (if any then thr < w t e else e = i t) ∧ (e = i t ∨ e = k t)
    · rw [if_pos h, if_pos (by rw [decide_eq_true h.1, decide_eq_true h.2]; rfl), mul_one]
    · rw [if_neg h, if_neg (by rw [Bool.and_eq_true, decide_eq_true_iff, decide_eq_true_iff]; exact h), mul_zero]
  unfold stage7 route
  after_reads_at
  simp only [h, ha, hm, hf]

/-! ## The output -/

theorem out_val (hid : Fin 8192 → Fin 768 → EReal) (base : Fin 4 → Fin 2048 → Fin 768 → EReal) (g : Fin 8192 → Fin 8 → EReal)
    (hh : ∀ t d, U (Proc.devRef .tc main_v4) (ix2 t d) = hid t d)
    (hb : ∀ b s o, U (Proc.devRef .tc main_v3) (ix3 b s o) = base b s o)
    (hg : ∀ t e, U (Proc.devRef .tc main_v75) (ix2 t e) = g t e) (b : Fin 4) (s : Fin 2048) (o : Fin 768) :
    stage8 U (Proc.devRef .tc main_v83) (ix3 b s o)
      = base b s o + ∑ e, (∑ d, wd U e o d * hid ⟨b.val * 2048 + s.val, by omega⟩ d + bd U e o) * g ⟨b.val * 2048 + s.val, by omega⟩ e := by
  unfold stage8 wd bd
  after_reads_at
  simp only [hh, hb, hg]

/-! ## The whole -/

theorem args1 : stage1 U (Proc.devRef .tc main_arg3) = U (Proc.devRef .tc main_arg3)
    ∧ stage1 U (Proc.devRef .tc main_arg4) = U (Proc.devRef .tc main_arg4) := by
  unfold stage1; constructor <;> after_reads_simp

/-- The buffers a later stage reads past the masks are as the first stage left them. -/
theorem kept : let W := stage7 (stage6 (stage5 (stage4 (stage3 (stage2 U)))))
    W (Proc.devRef .tc main_v4) = U (Proc.devRef .tc main_v4) ∧ W (Proc.devRef .tc main_v3) = U (Proc.devRef .tc main_v3)
    ∧ W (Proc.devRef .tc main_arg3) = U (Proc.devRef .tc main_arg3) ∧ W (Proc.devRef .tc main_arg4) = U (Proc.devRef .tc main_arg4) := by
  unfold stage7 stage6 stage5 stage4 stage3 stage2
  refine ⟨?_, ?_, ?_, ?_⟩ <;> after_reads_simp

theorem result (hw : ∀ t e, ⊥ < weight (tok U) (basis U) t e) (b : Fin 4) (s : Fin 2048) (o : Fin 768) :
    after Ref.line.1 U (Proc.devRef .tc main_v83) (ix3 b s o)
      = out (tok U) (w0 U) (b0 U) (wd U) (bd U) (basis U) ⟨b.val * 2048 + s.val, by omega⟩ o := by
  rw [stages]
  set U1 := stage1 U with e1
  set U2 := stage2 U1 with e2
  set U3 := stage3 U2 with e3
  set U4 := stage4 U3 with e4
  set U5 := stage5 U4 with e5
  set U6 := stage6 U5 with e6
  have w2 : ∀ t e, U2 (Proc.devRef .tc main_v23) (ix2 t e) = weight (tok U) (basis U) t e :=
    weight_val U1 _ (fun t e => resid_val U t e)
  have w3 : ∀ t e, U3 (Proc.devRef .tc main_v23) (ix2 t e) = weight (tok U) (basis U) t e := fun t e => by rw [e3, kept3]; exact w2 t e
  have w4 : ∀ t e, U4 (Proc.devRef .tc main_v23) (ix2 t e) = weight (tok U) (basis U) t e := fun t e => by rw [e4, (kept4 _).1]; exact w3 t e
  have w5 : ∀ t e, U5 (Proc.devRef .tc main_v23) (ix2 t e) = weight (tok U) (basis U) t e := fun t e => by rw [e5, kept5]; exact w4 t e
  have w6 : ∀ t e, U6 (Proc.devRef .tc main_v23) (ix2 t e) = weight (tok U) (basis U) t e := fun t e => by rw [e6, (kept6 _).1]; exact w5 t e
  have a4 := fun t e => (congrFun (kept4 U3).2 (ix2 t e)).trans (above_val U2 _ w2 t e)
  have m4 := mask_first U3 (zeros3 U2) (fst (tok U) (basis U)) (row_val U2)
    (fun t => first_val U2 _ w2 t (hw t) _ (fst_spec _ _ t))
  have m5 := mask_val U4 _ (any (tok U) (basis U)) Iff.rfl _ a4 m4
  have m6 := fun t e => (congrFun (kept6 U5).2 (ix2 t e)).trans (m5 t e)
  have p6 := mask_top U5 (zeros5 U4) (fst (tok U) (basis U)) (snd (tok U) (basis U)) (row2_val U4)
    (fun t c => top_val U4 _ w4 t _ _ (fst_spec _ _ t) (snd_spec _ _ t) c)
  have g7 := gate_val U6 _ _ _ _ w6 m6 p6
  obtain ⟨k4, k3, kd, kb⟩ := kept U1
  have h7 := fun t d => (congrFun k4 (ix2 t d)).trans (flat_val U t d)
  have b7 := fun b s o => (congrFun k3 (ix3 b s o)).trans (base_val U b s o ⟨b.val * 2048 + s.val, by omega⟩ rfl)
  have hd : wd (stage7 U6) = wd U := by
    funext e o d
    exact congrFun (kd.trans (args1 U).1) (ix3 e o d)
  have hb : bd (stage7 U6) = bd U := by
    funext e o
    exact congrFun (kb.trans (args1 U).2) (ix2 e o)
  have key := out_val (stage7 U6) _ _ _ h7 b7 g7 b s o
  rw [hd, hb] at key
  exact key

end Cert.RefVal

end
-- ==== Proof.lean ====
/-
  The claims, one theorem each, and their conjunction.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Ref
public import proofs.«01_k».proof.Proof.Run
public import proofs.«01_k».proof.Proof.Finite
public import proofs.«01_k».proof.Proof.RefVal

@[expose] public section

noncomputable section

namespace Cert.Proof

open Idealize.ShloMosaic Idealize.SL.Sem Idealize.ShloMosaic.TcCoe

theorem quiescent_ideal : Cert.quiescent_KernelIdeal := fun m g _ => Cert.Run.run_args m g

/-- The printed kernel and the idealized one are the same program, so the frame of the one is that of the other. -/
theorem quiescent_kernel : Cert.quiescent_Kernel := fun m g _ => by
  rw [Cert.Same.table, Cert.Same.mains]
  exact Cert.Run.run_args (F := Bits) m g

section Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Launched on the same tokens, weights and bases, the two programs leave the same output. -/
theorem same_value [Cert.KernelIdeal.Facts] [Cert.ReferenceIdeal.Facts] [Cert.Pre_finite_inputs.Facts]
    (hpre : Cert.Pre_KernelIdeal_finite_inputs m)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.Ref.V m' c (Proc.devRef .tc Cert.ReferenceIdeal.main_v83) : Cert.ReferenceIdeal.S4x2048x768.Idx → EReal)
      = Cert.Run.W6 m c (Proc.devRef .tc Cert.KernelIdeal.main_v31) := by
  obtain ⟨X, O, hX, hO⟩ := Cert.Finite.reals m hpre c
  obtain ⟨h0, h1, h2, h3, h4, h5⟩ := h
  have e0 : Cert.RefVal.tok (StableHlo.launchContents m' c) = Cert.KerVal.tok m c := by
    funext t d; exact congrFun h0 _
  have e1 : Cert.RefVal.w0 (StableHlo.launchContents m' c) = Cert.KerVal.w0 m c := by
    funext o d; exact congrFun h1 _
  have e2 : Cert.RefVal.b0 (StableHlo.launchContents m' c) = Cert.KerVal.b0 m c := by
    funext o; exact congrFun h2 _
  have e3 : Cert.RefVal.wd (StableHlo.launchContents m' c) = Cert.KerVal.wd m c := by
    funext e o d; exact congrFun h3 _
  have e4 : Cert.RefVal.bd (StableHlo.launchContents m' c) = Cert.KerVal.bd m c := by
    funext e o; exact congrFun h4 _
  have e5 : Cert.RefVal.basis (StableHlo.launchContents m' c) = Cert.KerVal.basis m c := by
    funext e d j; exact congrFun h5 _
  have hw : ∀ t e, ⊥ < Cert.Spec.weight (Cert.KerVal.tok m c) (Cert.KerVal.basis m c) t e := fun t e => by
    rw [hX, hO]
    obtain ⟨q, _, hq⟩ := Cert.Spec.weight_real X O t
    rw [hq]
    exact EReal.bot_lt_coe _
  funext i
  obtain ⟨b, s, o, rfl⟩ : ∃ (b : Fin 4) (s : Fin 2048) (o : Fin 768), i = ix3 b s o := ⟨i 0, i 1, i 2, eq_ix3 i⟩
  have hr := Cert.RefVal.result (StableHlo.launchContents m' c) (by rw [e0, e5]; exact hw) b s o
  rw [e0, e1, e2, e3, e4, e5] at hr
  exact hr.trans (Cert.KerVal.result m c X O hX hO b s o).symm

end Value

theorem algebraic [Cert.KernelIdeal.Facts] [Cert.ReferenceIdeal.Facts] [Cert.Pre_finite_inputs.Facts] :
    Cert.algebraic_KernelIdeal_ReferenceIdeal_pre_finite_inputs := fun m g m' g' hpre hargs => by
  refine ⟨fun c => Cert.Run.W6 m c (Proc.devRef .tc Cert.KernelIdeal.main_v31), ?_, ?_⟩
  · have kept := Cert.Run.keeps m
    exact (θ_run _ _ _).mono (fun r h c => ⟨h.1 c Cert.KernelIdeal.main_v31 rfl,
     (h.1 c Cert.KernelIdeal.main_arg0 rfl).trans (kept c _ (by decide) (by decide) (by decide) (by decide) (by decide) (by decide)),
     (h.1 c Cert.KernelIdeal.main_arg1 rfl).trans (kept c _ (by decide) (by decide) (by decide) (by decide) (by decide) (by decide)),
     (h.1 c Cert.KernelIdeal.main_arg2 rfl).trans (kept c _ (by decide) (by decide) (by decide) (by decide) (by decide) (by decide)),
     (h.1 c Cert.KernelIdeal.main_arg3 rfl).trans (kept c _ (by decide) (by decide) (by decide) (by decide) (by decide) (by decide)),
     (h.1 c Cert.KernelIdeal.main_arg4 rfl).trans (kept c _ (by decide) (by decide) (by decide) (by decide) (by decide) (by decide)),
     (h.1 c Cert.KernelIdeal.main_arg5 rfl).trans (kept c _ (by decide) (by decide) (by decide) (by decide) (by decide) (by decide))⟩) (Cert.Run.run m g)
  · exact (θ_run _ _ _).mono (fun r h c => ⟨(h c _).trans (same_value m m' c hpre (hargs c)),
     (h c _).trans (Cert.Ref.arg0 m' c), (h c _).trans (Cert.Ref.arg1 m' c), (h c _).trans (Cert.Ref.arg2 m' c), (h c _).trans (Cert.Ref.arg3 m' c), (h c _).trans (Cert.Ref.arg4 m' c), (h c _).trans (Cert.Ref.arg5 m' c)⟩) (Cert.Ref.run m' g')

theorem claim : Cert.Claim :=
  haveI := Cert.Finite.facts
  ⟨Cert.Kernel.Gen.facts, Cert.KernelIdeal.Gen.facts, Cert.ReferenceIdeal.Gen.facts, this,
  quiescent_kernel, quiescent_ideal, fun m g _ => Cert.Run.run_args m g, fun m g _ => Cert.Ref.frame m g,
  fun m g _ => Cert.Ref.frame m g, trivial, algebraic⟩

end Cert.Proof

end
